-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_router [hPre_finite_router : Cert.Pre_finite_router.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_router [hPre_finite_router : Cert.Pre_finite_router.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite_router [hKernel3Ideal : Cert.Kernel3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_router m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite_router [hReference3Ideal : Cert.Reference3Ideal.Facts] [hPre_finite_router : Cert.Pre_finite_router.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_router m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_router [hKernel3Ideal : Cert.Kernel3Ideal.Facts] [hReference3Ideal : Cert.Reference3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_router m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_router : Cert.Pre_finite_router.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_router (hKernel3Ideal := hKernel3Ideal) (hPre_finite_router := hPre_finite_router)
    ∧ quiescent_Reference3Ideal (hReference3Ideal := hReference3Ideal)
    ∧ quiescent_Reference3Ideal_pre_finite_router (hReference3Ideal := hReference3Ideal) (hPre_finite_router := hPre_finite_router)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_router (hKernel3Ideal := hKernel3Ideal) (hReference3Ideal := hReference3Ideal) (hPre_finite_router := hPre_finite_router)
-- ==== Pre_finite_router.lean ====
abbrev S2x4096x1024 : Shape := ⟨3, ![2, 4096, 1024]⟩
abbrev S2x4096x2048 : Shape := ⟨3, ![2, 4096, 2048]⟩
abbrev S2048x2048 : Shape := ⟨2, ![2048, 2048]⟩
abbrev S2x2048 : Shape := ⟨2, ![2, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩

class Facts : Prop where
  bcast_S_S2048 : S_.BroadcastsInDim S2048 (![] : Fin 0 → Fin S2048.rank)
  bcast_S_S2x2048 : S_.BroadcastsInDim S2x2048 (![] : Fin 0 → Fin S2x2048.rank)
  bcast_S_S2048x8 : S_.BroadcastsInDim S2048x8 (![] : Fin 0 → Fin S2048x8.rank)
  bcast_S_S2048x64 : S_.BroadcastsInDim S2048x64 (![] : Fin 0 → Fin S2048x64.rank)

variable [Facts]

def fn {F : FTy → Type} [FloatOps F] (main_arg0 : FVec F S2x4096x1024 .bf16) (main_arg1 : FVec F S2x4096x1024 .bf16) (main_arg2 : FVec F S2x4096x2048 .f32) (main_arg3 : FVec F S2048x2048 .f32) (main_arg4 : FVec F S2x2048 .f32) (main_arg5 : FVec F S2048 .f32) (main_arg6 : FVec F S2x2048 .f32) (main_arg7 : FVec F S2x2048 .f32) (main_arg8 : FVec F S2048x8 .f32) (main_arg9 : FVec F S8 .f32) (main_arg10 : FVec F S2048x64 .f32) (main_arg11 : FVec F S64 .f32) : IVec S2048 1 × IVec S2x2048 1 × IVec S2x2048 1 × IVec S2048x8 1 × IVec S2048x64 1 :=
  let main_v0 : FVec F S2048 .f32 := Host.absf main_arg5
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2x2048 .f32 := Host.absf main_arg6
  let main_cst_0 : FVec F S_ .f32 := constant S_ .f32 0x7F800000#32
  let main_v4 : FVec F S2x2048 .f32 := broadcastInDim S2x2048 ![] bcast_S_S2x2048 main_cst_0
  let main_v5 : IVec S2x2048 1 := cmpf .olt main_v3 main_v4
  let main_v6 : FVec F S2x2048 .f32 := Host.absf main_arg7
  let main_cst_1 : FVec F S_ .f32 := constant S_ .f32 0x7F800000#32
  let main_v7 : FVec F S2x2048 .f32 := broadcastInDim S2x2048 ![] bcast_S_S2x2048 main_cst_1
  let main_v8 : IVec S2x2048 1 := cmpf .olt main_v6 main_v7
  let main_v9 : FVec F S2048x8 .f32 := Host.absf main_arg8
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_v12 : FVec F S2048x64 .f32 := Host.absf main_arg10
  let main_cst_3 : FVec F S_ .f32 := constant S_ .f32 0x7F800000#32
  let main_v13 : FVec F S2048x64 .f32 := broadcastInDim S2048x64 ![] bcast_S_S2048x64 main_cst_3
  let main_v14 : IVec S2048x64 1 := cmpf .olt main_v12 main_v13
  (main_v2, main_v5, main_v8, main_v11, main_v14)
-- ==== Pre_finite_scores.lean ====
abbrev S2x4096x1280 : Shape := ⟨3, ![2, 4096, 1280]⟩
abbrev S16 : Shape := ⟨1, ![16]⟩
abbrev S2x4096x1152 : Shape := ⟨3, ![2, 4096, 1152]⟩
abbrev S_ : Shape := ⟨0, ![]⟩

class Facts : Prop where
  slices_S2x4096x1280_S2x4096x1152_0_0_0 : S2x4096x1280.Slices ![0, 0, 0] S2x4096x1152
  bcast_S_S2x4096x1152 : S_.BroadcastsInDim S2x4096x1152 (![] : Fin 0 → Fin S2x4096x1152.rank)
  bcast_S_S16 : S_.BroadcastsInDim S16 (![] : Fin 0 → Fin S16.rank)

variable [Facts]

def fn {F : FTy → Type} [FloatOps F] (main_arg0 : FVec F S2x4096x1280 .bf16) (main_arg1 : FVec F S16 .f32) : IVec S2x4096x1152 1 × IVec S16 1 :=
  let main_v0 : FVec F S2x4096x1152 .bf16 := (extractStridedSlice S2x4096x1152 ![0, 0, 0] · slices_S2x4096x1280_S2x4096x1152_0_0_0) main_arg0
  let main_v1 : FVec F S2x4096x1152 .bf16 := Host.absf main_v0
  let main_cst : FVec F S_ .bf16 := constant S_ .bf16 0x7F80#16
  let main_v2 : FVec F S2x4096x1152 .bf16 := broadcastInDim S2x4096x1152 ![] bcast_S_S2x4096x1152 main_cst
  let main_v3 : IVec S2x4096x1152 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Kernel.lean ====
abbrev S2x4096x1280 : Shape := ⟨3, ![2, 4096, 1280]⟩
abbrev S16 : Shape := ⟨1, ![16]⟩
abbrev S2x4096x1024 : Shape := ⟨3, ![2, 4096, 1024]⟩
abbrev S1x128x1024 : Shape := ⟨3, ![1, 128, 1024]⟩
abbrev S1x128x128 : Shape := ⟨3, ![1, 128, 128]⟩
abbrev S128x128 : Shape := ⟨2, ![128, 128]⟩
abbrev S128x256 : Shape := ⟨2, ![128, 256]⟩
abbrev S1x128x64 : Shape := ⟨3, ![1, 128, 64]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S128x1024 : Shape := ⟨2, ![128, 1024]⟩

abbrev nBuf : Space → Nat
  | .hbm => 3
  | .vmem => 12
  | .smem => 1
  | _ => 0

abbrev bufTy : (tb : Table) → Fin (tcTables nBuf tb) → BufTy
  | .hbm, ⟨0, _⟩ => ⟨S2x4096x1280, .bf16⟩
  | .hbm, ⟨1, _⟩ => ⟨S16, .f32⟩
  | .hbm, ⟨2, _⟩ => ⟨S2x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x1024, .bf16⟩
  | .local _ .vmem, ⟨11, _⟩ => ⟨S1x128x1024, .bf16⟩
  | .local _ .smem, ⟨0, _⟩ => ⟨S16, .f32⟩
  | _, _ => ⟨S2x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let c0_i32_0 : BitVec 32 := 0#32
  ![arg0.toNat, v1.toNat, c8_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let c0_i32_0 : BitVec 32 := 0#32
  ![arg0.toNat, v1.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x1280 : Shape := ⟨3, ![2, 4096, 1280]⟩
abbrev S16 : Shape := ⟨1, ![16]⟩
abbrev S2x4096x1024 : Shape := ⟨3, ![2, 4096, 1024]⟩
abbrev S2x4096x128 : Shape := ⟨3, ![2, 4096, 128]⟩
abbrev S2x4096x16x64 : Shape := ⟨4, ![2, 4096, 16, 64]⟩
abbrev S2x4096x2x64 : Shape := ⟨4, ![2, 4096, 2, 64]⟩
abbrev S2x32x128x2x8x64 : Shape := ⟨6, ![2, 32, 128, 2, 8, 64]⟩
abbrev S_ : Shape := ⟨0, ![]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S2x32x2x256x128x8 : Shape := ⟨6, ![2, 32, 2, 256, 128, 8]⟩
abbrev S2x32x2x8x128x256 : Shape := ⟨6, ![2, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x8x1x1 : Shape := ⟨6, ![1, 1, 2, 8, 1, 1]⟩
abbrev S2x32x2x8x128 : Shape := ⟨5, ![2, 32, 2, 8, 128]⟩
abbrev S2x32x2x8x128x1 : Shape := ⟨6, ![2, 32, 2, 8, 128, 1]⟩
abbrev S2x32x2x64x8x128 : Shape := ⟨6, ![2, 32, 2, 64, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S2x4096x1280, .bf16⟩
  | .hbm, ⟨1, _⟩ => ⟨S16, .f32⟩
  | .hbm, ⟨2, _⟩ => ⟨S2x4096x1280, .f32⟩
  | .hbm, ⟨3, _⟩ => ⟨S2x4096x1024, .f32⟩
  | .hbm, ⟨4, _⟩ => ⟨S2x4096x128, .f32⟩
  | .hbm, ⟨5, _⟩ => ⟨S2x4096x128, .f32⟩
  | .hbm, ⟨6, _⟩ => ⟨S2x4096x16x64, .f32⟩
  | .hbm, ⟨7, _⟩ => ⟨S2x4096x2x64, .f32⟩
  | .hbm, ⟨8, _⟩ => ⟨S2x4096x2x64, .f32⟩
  | .hbm, ⟨9, _⟩ => ⟨S2x32x128x2x8x64, .f32⟩
  | .hbm, ⟨10, _⟩ => ⟨S_, .i32⟩
  | .hbm, ⟨11, _⟩ => ⟨S_, .f32⟩
  | .hbm, ⟨12, _⟩ => ⟨S2x4224x2x64, .f32⟩
  | .hbm, ⟨13, _⟩ => ⟨S2x33x128x2x64, .f32⟩
  | .hbm, ⟨14, _⟩ => ⟨S_, .i32⟩
  | .hbm, ⟨15, _⟩ => ⟨S_, .f32⟩
  | .hbm, ⟨16, _⟩ => ⟨S2x4224x2x64, .f32⟩
  | .hbm, ⟨17, _⟩ => ⟨S2x33x128x2x64, .f32⟩
  | .hbm, ⟨18, _⟩ => ⟨S2x32x128x2x64, .f32⟩
  | .hbm, ⟨19, _⟩ => ⟨S2x32x128x2x64, .f32⟩
  | .hbm, ⟨20, _⟩ => ⟨S2x32x256x2x64, .f32⟩
  | .hbm, ⟨21, _⟩ => ⟨S2x32x128x2x64, .f32⟩
  | .hbm, ⟨22, _⟩ => ⟨S2x32x128x2x64, .f32⟩
  | .hbm, ⟨23, _⟩ => ⟨S2x32x256x2x64, .f32⟩
  | .hbm, ⟨24, _⟩ => ⟨S2x32x2x256x128x8, .f32⟩
  | .hbm, ⟨25, _⟩ => ⟨S2x32x2x8x128x256, .f32⟩
  | .hbm, ⟨26, _⟩ => ⟨S_, .f32⟩
  | .hbm, ⟨27, _⟩ => ⟨S2x32x2x8x128x256, .f32⟩
  | .hbm, ⟨28, _⟩ => ⟨S2x32x2x8x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S1x256, .i32⟩
  | .hbm, ⟨35, _⟩ => ⟨S1x256, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S32, .i32⟩
  | .hbm, ⟨47, _⟩ => ⟨S32x1x1, .i32⟩
  | .hbm, ⟨48, _⟩ => ⟨S_, .i32⟩
  | .hbm, ⟨49, _⟩ => ⟨S32x1x1, .i32⟩
  | .hbm, ⟨50, _⟩ => ⟨S32x1x1, .i32⟩
  | .hbm, ⟨51, _⟩ => ⟨S1x1x256, .i32⟩
  | .hbm, ⟨52, _⟩ => ⟨S32x1x256, .i32⟩
  | .hbm, ⟨53, _⟩ => ⟨S32x1x256, .i32⟩
  | .hbm, ⟨54, _⟩ => ⟨S32x1x256, .i32⟩
  | .hbm, ⟨55, _⟩ => ⟨S_, .i32⟩
  | .hbm, ⟨56, _⟩ => ⟨S32x1x256, .i32⟩
  | .hbm, ⟨57, _⟩ => ⟨S32x1x256, .i1⟩
  | .hbm, ⟨58, _⟩ => ⟨S1x128x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S1x32x1x1x128x256, .i1⟩
  | .hbm, ⟨63, _⟩ => ⟨S_, .f32⟩
  | .hbm, ⟨64, _⟩ => ⟨S_, .f32⟩
  | .hbm, ⟨65, _⟩ => ⟨S2x32x2x8x128x256, .i1⟩
  | .hbm, ⟨66, _⟩ => ⟨S2x32x2x8x128x256, .f32⟩
  | .hbm, ⟨67, _⟩ => ⟨S2x32x2x8x128x256, .f32⟩
  | .hbm, ⟨68, _⟩ => ⟨S1x1x2x8x1x1, .f32⟩
  | .hbm, ⟨69, _⟩ => ⟨S_, .f32⟩
  | .hbm, ⟨70, _⟩ => ⟨S2x32x2x8x128, .f32⟩
  | .hbm, ⟨71, _⟩ => ⟨S2x32x2x8x128x1, .f32⟩
  | .hbm, ⟨72, _⟩ => ⟨S2x32x2x8x128x1, .f32⟩
  | .hbm, ⟨73, _⟩ => ⟨S2x32x2x8x128x1, .f32⟩
  | .hbm, ⟨74, _⟩ => ⟨S2x32x2x8x128x256, .f32⟩
  | .hbm, ⟨75, _⟩ => ⟨S2x32x2x8x128x256, .f32⟩
  | .hbm, ⟨76, _⟩ => ⟨S2x32x2x8x128x256, .f32⟩
  | .hbm, ⟨77, _⟩ => ⟨S_, .f32⟩
  | .hbm, ⟨78, _⟩ => ⟨S2x32x2x8x128, .f32⟩
  | .hbm, ⟨79, _⟩ => ⟨S2x32x2x8x128x1, .f32⟩
  | .hbm, ⟨80, _⟩ => ⟨S2x32x2x8x128x1, .f32⟩
  | .hbm, ⟨81, _⟩ => ⟨S2x32x2x8x128x1, .f32⟩
  | .hbm, ⟨82, _⟩ => ⟨S2x32x2x8x128x1, .f32⟩
  | .hbm, ⟨83, _⟩ => ⟨S2x32x2x8x128x1, .f32⟩
  | .hbm, ⟨84, _⟩ => ⟨S2x32x2x8x128x256, .f32⟩
  | .hbm, ⟨85, _⟩ => ⟨S2x32x2x8x128x256, .f32⟩
  | .hbm, ⟨86, _⟩ => ⟨S2x32x2x64x8x128, .f32⟩
  | .hbm, ⟨87, _⟩ => ⟨S2x32x128x2x8x64, .f32⟩
  | .hbm, ⟨88, _⟩ => ⟨S2x4096x1024, .f32⟩
  | .hbm, ⟨89, _⟩ => ⟨S2x4096x1024, .bf16⟩
  | _, _ => ⟨S2x4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2x2048 : Shape := ⟨2, ![2, 2048]⟩
abbrev S2048x4640 : Shape := ⟨2, ![2048, 4640]⟩
abbrev S3360 : Shape := ⟨1, ![3360]⟩
abbrev S4096x32 : Shape := ⟨2, ![4096, 32]⟩
abbrev S_ : Shape := ⟨0, ![]⟩
abbrev S2048x4736 : Shape := ⟨2, ![2048, 4736]⟩
abbrev S3456 : Shape := ⟨1, ![3456]⟩
abbrev S1x3456 : Shape := ⟨2, ![1, 3456]⟩
abbrev S4096x128 : Shape := ⟨2, ![4096, 128]⟩
abbrev S8192x2048 : Shape := ⟨2, ![8192, 2048]⟩
abbrev S1x2048 : Shape := ⟨2, ![1, 2048]⟩
abbrev S2x1x2048 : Shape := ⟨3, ![2, 1, 2048]⟩
abbrev S8192x1280 : Shape := ⟨2, ![8192, 1280]⟩
abbrev S8192x3456 : Shape := ⟨2, ![8192, 3456]⟩
abbrev S256x2048 : Shape := ⟨2, ![256, 2048]⟩
abbrev S1x1x2048 : Shape := ⟨3, ![1, 1, 2048]⟩
abbrev S256x128 : Shape := ⟨2, ![256, 128]⟩
abbrev S256x1280 : Shape := ⟨2, ![256, 1280]⟩
abbrev S256x3456 : Shape := ⟨2, ![256, 3456]⟩
abbrev S8x3456 : Shape := ⟨2, ![8, 3456]⟩
abbrev S256 : Shape := ⟨1, ![256]⟩
abbrev S256x1 : Shape := ⟨2, ![256, 1]⟩
abbrev S256x256 : Shape := ⟨2, ![256, 256]⟩
abbrev S2048x256 : Shape := ⟨2, ![2048, 256]⟩
abbrev S2048x512 : Shape := ⟨2, ![2048, 512]⟩
abbrev S256x512 : Shape := ⟨2, ![256, 512]⟩
abbrev S1x512 : Shape := ⟨2, ![1, 512]⟩
abbrev S8x512 : Shape := ⟨2, ![8, 512]⟩
abbrev S2048x384 : Shape := ⟨2, ![2048, 384]⟩
abbrev S256x384 : Shape := ⟨2, ![256, 384]⟩
abbrev S1x384 : Shape := ⟨2, ![1, 384]⟩
abbrev S8x384 : Shape := ⟨2, ![8, 384]⟩

abbrev nBuf : Space → Nat
  | .hbm => 26
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x4640, .f32⟩
  | .hbm, ⟨5, _⟩ => ⟨S3360, .f32⟩
  | .hbm, ⟨6, _⟩ => ⟨S4096x32, .f32⟩
  | .hbm, ⟨7, _⟩ => ⟨S4096x32, .f32⟩
  | .hbm, ⟨8, _⟩ => ⟨S_, .i32⟩
  | .hbm, ⟨9, _⟩ => ⟨S_, .f32⟩
  | .hbm, ⟨10, _⟩ => ⟨S2048x4736, .f32⟩
  | .hbm, ⟨11, _⟩ => ⟨S2048x4736, .bf16⟩
  | .hbm, ⟨12, _⟩ => ⟨S_, .i32⟩
  | .hbm, ⟨13, _⟩ => ⟨S_, .f32⟩
  | .hbm, ⟨14, _⟩ => ⟨S3456, .f32⟩
  | .hbm, ⟨15, _⟩ => ⟨S1x3456, .f32⟩
  | .hbm, ⟨16, _⟩ => ⟨S4096x128, .f32⟩
  | .hbm, ⟨17, _⟩ => ⟨S4096x32, .f32⟩
  | .hbm, ⟨18, _⟩ => ⟨S4096x32, .f32⟩
  | .hbm, ⟨19, _⟩ => ⟨S4096x128, .f32⟩
  | .hbm, ⟨20, _⟩ => ⟨S8192x2048, .f32⟩
  | .hbm, ⟨21, _⟩ => ⟨S1x2048, .f32⟩
  | .hbm, ⟨22, _⟩ => ⟨S2x1x2048, .f32⟩
  | .hbm, ⟨23, _⟩ => ⟨S2x1x2048, .f32⟩
  | .hbm, ⟨24, _⟩ => ⟨S8192x1280, .bf16⟩
  | .hbm, ⟨25, _⟩ => ⟨S8192x3456, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x4736, .bf16⟩
  | .local _ .vmem, ⟨8, _⟩ => ⟨S1x3456, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1280, .bf16⟩
  | .local _ .vmem, ⟨14, _⟩ => ⟨S256x1280, .bf16⟩
  | .local _ .vmem, ⟨15, _⟩ => ⟨S256x3456, .f32⟩
  | .local _ .vmem, ⟨16, _⟩ => ⟨S256x3456, .f32⟩
  | .local _ .vmem, ⟨17, _⟩ => ⟨S8x3456, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4736 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3456 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x4096x2048 : Shape := ⟨3, ![2, 4096, 2048]⟩
abbrev S2048 : Shape := ⟨1, ![2048]⟩
abbrev S2x2048 : Shape := ⟨2, ![2, 2048]⟩
abbrev S2048x4640 : Shape := ⟨2, ![2048, 4640]⟩
abbrev S3360 : Shape := ⟨1, ![3360]⟩
abbrev S4096x32 : Shape := ⟨2, ![4096, 32]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x4640 : Shape := ⟨3, ![2, 4096, 4640]⟩
abbrev S2x4096x1280 : Shape := ⟨3, ![2, 4096, 1280]⟩
abbrev S2x4096x3360 : Shape := ⟨3, ![2, 4096, 3360]⟩
abbrev S2x4096x1024 : Shape := ⟨3, ![2, 4096, 1024]⟩
abbrev S2x4096x128 : Shape := ⟨3, ![2, 4096, 128]⟩
abbrev S2x4096x16x64 : Shape := ⟨4, ![2, 4096, 16, 64]⟩
abbrev S2x4096x16x32 : Shape := ⟨4, ![2, 4096, 16, 32]⟩
abbrev S1x4096x1x32 : Shape := ⟨4, ![1, 4096, 1, 32]⟩
abbrev S2x4096x2x64 : Shape := ⟨4, ![2, 4096, 2, 64]⟩
abbrev S2x4096x2x32 : Shape := ⟨4, ![2, 4096, 2, 32]⟩
abbrev S2x4097x3360 : Shape := ⟨3, ![2, 4097, 3360]⟩
abbrev S1x1x3360 : Shape := ⟨3, ![1, 1, 3360]⟩
abbrev S8192x1280 : Shape := ⟨2, ![8192, 1280]⟩
abbrev S8192x3360 : Shape := ⟨2, ![8192, 3360]⟩
abbrev S8192x3456 : Shape := ⟨2, ![8192, 3456]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x4640, .f32⟩
  | .hbm, ⟨5, _⟩ => ⟨S3360, .f32⟩
  | .hbm, ⟨6, _⟩ => ⟨S4096x32, .f32⟩
  | .hbm, ⟨7, _⟩ => ⟨S4096x32, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x4096x2048, .f32⟩
  | .hbm, ⟨29, _⟩ => ⟨S2x4096x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x4640, .f32⟩
  | .hbm, ⟨34, _⟩ => ⟨S2x4096x1280, .f32⟩
  | .hbm, ⟨35, _⟩ => ⟨S2x4096x3360, .f32⟩
  | .hbm, ⟨36, _⟩ => ⟨S2x4096x1024, .f32⟩
  | .hbm, ⟨37, _⟩ => ⟨S2x4096x128, .f32⟩
  | .hbm, ⟨38, _⟩ => ⟨S2x4096x128, .f32⟩
  | .hbm, ⟨39, _⟩ => ⟨S2x4096x16x64, .f32⟩
  | .hbm, ⟨40, _⟩ => ⟨S2x4096x16x32, .f32⟩
  | .hbm, ⟨41, _⟩ => ⟨S2x4096x16x32, .f32⟩
  | .hbm, ⟨42, _⟩ => ⟨S1x4096x1x32, .f32⟩
  | .hbm, ⟨43, _⟩ => ⟨S1x4096x1x32, .f32⟩
  | .hbm, ⟨44, _⟩ => ⟨S2x4096x16x32, .f32⟩
  | .hbm, ⟨45, _⟩ => ⟨S2x4096x16x32, .f32⟩
  | .hbm, ⟨46, _⟩ => ⟨S2x4096x16x32, .f32⟩
  | .hbm, ⟨47, _⟩ => ⟨S2x4096x16x32, .f32⟩
  | .hbm, ⟨48, _⟩ => ⟨S2x4096x16x32, .f32⟩
  | .hbm, ⟨49, _⟩ => ⟨S2x4096x16x32, .f32⟩
  | .hbm, ⟨50, _⟩ => ⟨S2x4096x16x32, .f32⟩
  | .hbm, ⟨51, _⟩ => ⟨S2x4096x16x32, .f32⟩
  | .hbm, ⟨52, _⟩ => ⟨S2x4096x16x32, .f32⟩
  | .hbm, ⟨53, _⟩ => ⟨S2x4096x16x32, .f32⟩
  | .hbm, ⟨54, _⟩ => ⟨S2x4096x16x64, .f32⟩
  | .hbm, ⟨55, _⟩ => ⟨S2x4096x2x64, .f32⟩
  | .hbm, ⟨56, _⟩ => ⟨S2x4096x2x32, .f32⟩
  | .hbm, ⟨57, _⟩ => ⟨S2x4096x2x32, .f32⟩
  | .hbm, ⟨58, _⟩ => ⟨S1x4096x1x32, .f32⟩
  | .hbm, ⟨59, _⟩ => ⟨S1x4096x1x32, .f32⟩
  | .hbm, ⟨60, _⟩ => ⟨S2x4096x2x32, .f32⟩
  | .hbm, ⟨61, _⟩ => ⟨S2x4096x2x32, .f32⟩
  | .hbm, ⟨62, _⟩ => ⟨S2x4096x2x32, .f32⟩
  | .hbm, ⟨63, _⟩ => ⟨S2x4096x2x32, .f32⟩
  | .hbm, ⟨64, _⟩ => ⟨S2x4096x2x32, .f32⟩
  | .hbm, ⟨65, _⟩ => ⟨S2x4096x2x32, .f32⟩
  | .hbm, ⟨66, _⟩ => ⟨S2x4096x2x32, .f32⟩
  | .hbm, ⟨67, _⟩ => ⟨S2x4096x2x32, .f32⟩
  | .hbm, ⟨68, _⟩ => ⟨S2x4096x2x32, .f32⟩
  | .hbm, ⟨69, _⟩ => ⟨S2x4096x2x32, .f32⟩
  | .hbm, ⟨70, _⟩ => ⟨S2x4096x2x64, .f32⟩
  | .hbm, ⟨71, _⟩ => ⟨S2x4096x1024, .f32⟩
  | .hbm, ⟨72, _⟩ => ⟨S2x4096x128, .f32⟩
  | .hbm, ⟨73, _⟩ => ⟨S2x4096x1280, .f32⟩
  | .hbm, ⟨74, _⟩ => ⟨S_, .i32⟩
  | .hbm, ⟨75, _⟩ => ⟨S_, .f32⟩
  | .hbm, ⟨76, _⟩ => ⟨S2x4097x3360, .f32⟩
  | .hbm, ⟨77, _⟩ => ⟨S2x4096x3360, .f32⟩
  | .hbm, ⟨78, _⟩ => ⟨S2x4096x3360, .f32⟩
  | .hbm, ⟨79, _⟩ => ⟨S1x1x3360, .f32⟩
  | .hbm, ⟨80, _⟩ => ⟨S2x4096x3360, .f32⟩
  | .hbm, ⟨81, _⟩ => ⟨S2x4096x3360, .f32⟩
  | .hbm, ⟨82, _⟩ => ⟨S2x4096x3360, .f32⟩
  | .hbm, ⟨83, _⟩ => ⟨S8192x1280, .f32⟩
  | .hbm, ⟨84, _⟩ => ⟨S8192x1280, .bf16⟩
  | .hbm, ⟨85, _⟩ => ⟨S8192x3360, .f32⟩
  | .hbm, ⟨86, _⟩ => ⟨S_, .i32⟩
  | .hbm, ⟨87, _⟩ => ⟨S_, .f32⟩
  | .hbm, ⟨88, _⟩ => ⟨S8192x3456, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c : Ref sig .tc := ⟨.hbm, 74, rfl⟩
abbrev main_call0_v0 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_c_3 : Ref sig .tc := ⟨.hbm, 86, rfl⟩
abbrev main_call1_v0 : Ref sig .tc := ⟨.hbm, 87, rfl⟩
abbrev main_v72 : Ref sig .tc := ⟨.hbm, 88, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x4096x2048 : Shape := ⟨3, ![2, 4096, 2048]⟩
abbrev S2048x2048 : Shape := ⟨2, ![2048, 2048]⟩
abbrev S2x2048 : Shape := ⟨2, ![2, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S8192x2048 : Shape := ⟨2, ![8192, 2048]⟩
abbrev S2048x72 : Shape := ⟨2, ![2048, 72]⟩
abbrev S_ : Shape := ⟨0, ![]⟩
abbrev S2048x128 : Shape := ⟨2, ![2048, 128]⟩
abbrev S72 : Shape := ⟨1, ![72]⟩
abbrev S128 : Shape := ⟨1, ![128]⟩
abbrev S1x128 : Shape := ⟨2, ![1, 128]⟩
abbrev S8192x1024 : Shape := ⟨2, ![8192, 1024]⟩
abbrev S2x1x2048 : Shape := ⟨3, ![2, 1, 2048]⟩
abbrev S1x2048 : Shape := ⟨2, ![1, 2048]⟩
abbrev S2048x256 : Shape := ⟨2, ![2048, 256]⟩
abbrev S8192x128 : Shape := ⟨2, ![8192, 128]⟩
abbrev S256x1024 : Shape := ⟨2, ![256, 1024]⟩
abbrev S256x2048 : Shape := ⟨2, ![256, 2048]⟩
abbrev S1x1x2048 : Shape := ⟨3, ![1, 1, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 37
  | .vmem => 23
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x2048, .f32⟩
  | .hbm, ⟨3, _⟩ => ⟨S2048x2048, .f32⟩
  | .hbm, ⟨4, _⟩ => ⟨S2x2048, .f32⟩
  | .hbm, ⟨5, _⟩ => ⟨S2048, .f32⟩
  | .hbm, ⟨6, _⟩ => ⟨S2x2048, .f32⟩
  | .hbm, ⟨7, _⟩ => ⟨S2x2048, .f32⟩
  | .hbm, ⟨8, _⟩ => ⟨S2048x8, .f32⟩
  | .hbm, ⟨9, _⟩ => ⟨S8, .f32⟩
  | .hbm, ⟨10, _⟩ => ⟨S2048x64, .f32⟩
  | .hbm, ⟨11, _⟩ => ⟨S64, .f32⟩
  | .hbm, ⟨12, _⟩ => ⟨S8192x2048, .f32⟩
  | .hbm, ⟨13, _⟩ => ⟨S2048x72, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S2048x128, .f32⟩
  | .hbm, ⟨19, _⟩ => ⟨S2048x128, .f32⟩
  | .hbm, ⟨20, _⟩ => ⟨S2048x128, .bf16⟩
  | .hbm, ⟨21, _⟩ => ⟨S72, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S8192x1024, .bf16⟩
  | .hbm, ⟨27, _⟩ => ⟨S8192x1024, .bf16⟩
  | .hbm, ⟨28, _⟩ => ⟨S2048x2048, .bf16⟩
  | .hbm, ⟨29, _⟩ => ⟨S2x1x2048, .f32⟩
  | .hbm, ⟨30, _⟩ => ⟨S1x2048, .f32⟩
  | .hbm, ⟨31, _⟩ => ⟨S2x1x2048, .f32⟩
  | .hbm, ⟨32, _⟩ => ⟨S2x1x2048, .f32⟩
  | .hbm, ⟨33, _⟩ => ⟨S2048x256, .bf16⟩
  | .hbm, ⟨34, _⟩ => ⟨S8192x2048, .f32⟩
  | .hbm, ⟨35, _⟩ => ⟨S8192x2048, .bf16⟩
  | .hbm, ⟨36, _⟩ => ⟨S8192x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x256, .bf16⟩
  | .local _ .vmem, ⟨15, _⟩ => ⟨S2048x128, .bf16⟩
  | .local _ .vmem, ⟨16, _⟩ => ⟨S1x128, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | .local _ .vmem, ⟨21, _⟩ => ⟨S256x128, .f32⟩
  | .local _ .vmem, ⟨22, _⟩ => ⟨S256x128, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S2x4096x1024 : Shape := ⟨3, ![2, 4096, 1024]⟩
abbrev S2x4096x2048 : Shape := ⟨3, ![2, 4096, 2048]⟩
abbrev S2048x2048 : Shape := ⟨2, ![2048, 2048]⟩
abbrev S2x2048 : Shape := ⟨2, ![2, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S8192x8 : Shape := ⟨2, ![8192, 8]⟩
abbrev S1x8 : Shape := ⟨2, ![1, 8]⟩
abbrev S8192x64 : Shape := ⟨2, ![8192, 64]⟩
abbrev S1x64 : Shape := ⟨2, ![1, 64]⟩
abbrev S8192x72 : Shape := ⟨2, ![8192, 72]⟩
abbrev S8192x128 : Shape := ⟨2, ![8192, 128]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x2048, .f32⟩
  | .hbm, ⟨3, _⟩ => ⟨S2048x2048, .f32⟩
  | .hbm, ⟨4, _⟩ => ⟨S2x2048, .f32⟩
  | .hbm, ⟨5, _⟩ => ⟨S2048, .f32⟩
  | .hbm, ⟨6, _⟩ => ⟨S2x2048, .f32⟩
  | .hbm, ⟨7, _⟩ => ⟨S2x2048, .f32⟩
  | .hbm, ⟨8, _⟩ => ⟨S2048x8, .f32⟩
  | .hbm, ⟨9, _⟩ => ⟨S8, .f32⟩
  | .hbm, ⟨10, _⟩ => ⟨S2048x64, .f32⟩
  | .hbm, ⟨11, _⟩ => ⟨S64, .f32⟩
  | .hbm, ⟨12, _⟩ => ⟨S2x4096x1024, .f32⟩
  | .hbm, ⟨13, _⟩ => ⟨S2x4096x1024, .f32⟩
  | .hbm, ⟨14, _⟩ => ⟨S2x4096x2048, .f32⟩
  | .hbm, ⟨15, _⟩ => ⟨S2x4096x2048, .f32⟩
  | .hbm, ⟨16, _⟩ => ⟨S2x1x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S2x1x2048, .f32⟩
  | .hbm, ⟨37, _⟩ => ⟨S_, .f32⟩
  | .hbm, ⟨38, _⟩ => ⟨S2x1x2048, .f32⟩
  | .hbm, ⟨39, _⟩ => ⟨S2x1x2048, .f32⟩
  | .hbm, ⟨40, _⟩ => ⟨S2x4096x2048, .f32⟩
  | .hbm, ⟨41, _⟩ => ⟨S2x4096x2048, .f32⟩
  | .hbm, ⟨42, _⟩ => ⟨S2x1x2048, .f32⟩
  | .hbm, ⟨43, _⟩ => ⟨S2x4096x2048, .f32⟩
  | .hbm, ⟨44, _⟩ => ⟨S2x4096x2048, .f32⟩
  | .hbm, ⟨45, _⟩ => ⟨S8192x2048, .f32⟩
  | .hbm, ⟨46, _⟩ => ⟨S8192x8, .f32⟩
  | .hbm, ⟨47, _⟩ => ⟨S1x8, .f32⟩
  | .hbm, ⟨48, _⟩ => ⟨S8192x8, .f32⟩
  | .hbm, ⟨49, _⟩ => ⟨S8192x8, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | .hbm, ⟨54, _⟩ => ⟨S8192x72, .f32⟩
  | .hbm, ⟨55, _⟩ => ⟨S8192x2048, .f32⟩
  | .hbm, ⟨56, _⟩ => ⟨S8192x2048, .bf16⟩
  | .hbm, ⟨57, _⟩ => ⟨S_, .i32⟩
  | .hbm, ⟨58, _⟩ => ⟨S_, .f32⟩
  | .hbm, ⟨59, _⟩ => ⟨S8192x128, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_call0_v0 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Proof.InSpec.lean ====
/-
  The input projection as a function of its arrays: normalised and modulated rows times the weights; the attention columns with
  their rotary position, the recurrence's columns mixed with the time step before.
-/
module
public import Idealize.ShloMosaic.Lib.Pointwise
@[expose] public section
noncomputable section
namespace Cert.Inp
open Idealize.ShloMosaic Idealize.ShloMosaic.Tactic

/-- One modulated element: column `k` of the row `v`, its gain, its scale and its shift. -/
def norm (v : Fin 2048 → EReal) (g sc sh : EReal) (k : Fin 2048) : EReal :=
  v k * Ideal.rsqrt (Ideal.div (∑ j : Fin 2048, v j * v j) (Ideal.ofBits .f32 0x45000000#32) + Ideal.ofBits .f32 0x358637BD#32)
    * g * (1 + sc) + sh

section
variable (x : (⟨3, ![2, 4096, 2048]⟩ : Shape).Idx → EReal) (g : (⟨1, ![2048]⟩ : Shape).Idx → EReal)
  (sh sc : (⟨2, ![2, 2048]⟩ : Shape).Idx → EReal) (w : (⟨2, ![2048, 4640]⟩ : Shape).Idx → EReal)
  (mu : (⟨1, ![3360]⟩ : Shape).Idx → EReal) (co si : (⟨2, ![4096, 32]⟩ : Shape).Idx → EReal)

/-- A modulated row. -/
def row (b : Fin 2) (t : Fin 4096) (k : Fin 2048) : EReal :=
  norm (fun j => x (ix3 b t j)) (g (ix1 k)) (sc (ix2 b k)) (sh (ix2 b k)) k

/-- The weights, zero from column 4640 on. -/
def wide (k : Fin 2048) (n : Nat) : EReal := if h : n < 4640 then w (ix2 k ⟨n, h⟩) else 0

/-- The mixing weights, zero from column 3360 on. -/
def mix (n : Nat) : EReal := if h : n < 3360 then mu (ix1 ⟨n, h⟩) else 0

/-- A projected column. -/
def Z (b : Fin 2) (t : Fin 4096) (n : Nat) : EReal := ∑ k : Fin 2048, row x g sh sc b t k * wide w k n

/-- Column `e` of heads of 64 columns `f` with their rotary position at time `t`. -/
def rot (f : Nat → EReal) (t : Fin 4096) (e : Nat) : EReal :=
  f e * co (ix2 t ⟨e % 32, Nat.mod_lt _ (by decide)⟩)
    + if e % 64 < 32 then f (e + 32) * -si (ix2 t ⟨e % 32, Nat.mod_lt _ (by decide)⟩)
      else f (e - 32) * si (ix2 t ⟨e % 32, Nat.mod_lt _ (by decide)⟩)

/-- The attention columns. -/
def za (b : Fin 2) (t : Fin 4096) (e : Nat) : EReal :=
  if e < 1152 then rot co si (Z x g sh sc w b t) t e else Z x g sh sc w b t e

/-- The recurrence's columns. -/
def zr (b : Fin 2) (t : Fin 4096) (j : Nat) : EReal :=
  Z x g sh sc w b t (1280 + j)
    + ((if t.val = 0 then 0 else Z x g sh sc w b ⟨t.val - 1, by omega⟩ (1280 + j)) - Z x g sh sc w b t (1280 + j)) * mix mu j

/-- The attention columns as an array, the sequences under one another. -/
def arrA : (⟨2, ![8192, 1280]⟩ : Shape).Idx → EReal := fun i =>
  za x g sh sc w co si ⟨(i 0).val / 4096, Nat.div_lt_of_lt_mul (i 0).isLt⟩ ⟨(i 0).val % 4096, Nat.mod_lt _ (by decide)⟩ (i 1).val

/-- The recurrence's columns as an array. -/
def arrR : (⟨2, ![8192, 3456]⟩ : Shape).Idx → EReal := fun i =>
  zr x g sh sc w mu ⟨(i 0).val / 4096, Nat.div_lt_of_lt_mul (i 0).isLt⟩ ⟨(i 0).val % 4096, Nat.mod_lt _ (by decide)⟩ (i 1).val

/-- An index of a two-axis array is its two coordinates. -/
theorem two {a b : Nat} (i : (⟨2, ![a, b]⟩ : Shape).Idx) : ∃ (r : Fin a) (e : Fin b), i = ix2 r e := by
  refine ⟨i 0, i 1, ?_⟩
  funext k
  match k with
  | ⟨0, _⟩ => rfl
  | ⟨1, _⟩ => rfl

/-- Past the weights' columns the projection is zero. -/
theorem Z_pad (b : Fin 2) (t : Fin 4096) (n : Nat) (h : 4640 ≤ n) : Z x g sh sc w b t n = 0 := by
  unfold Z wide
  refine Finset.sum_eq_zero fun k _ => ?_
  rw [dif_neg (by omega), mul_zero]

/-- Past the recurrence's columns the result is zero. -/
theorem zr_pad (b : Fin 2) (t : Fin 4096) (j : Nat) (h : 3360 ≤ j) : zr x g sh sc w mu b t j = 0 := by
  unfold zr mix
  rw [dif_neg (by omega), mul_zero, add_zero, Z_pad _ _ _ _ _ _ _ _ (by omega)]

end
end Cert.Inp
-- ==== Proof.Soft.lean ====
/-
  A row of a softmax with a sink, on the extended reals: dividing the weighted sum by the denominator is the sum of the
  divided weights, as long as no score is `⊤` and the sink is finite.
-/
module
public import Idealize.ShloMosaic.PureOps
public import Idealize.ShloMosaic.Lib.IdealHost
@[expose] public section
noncomputable section
namespace Cert.Att
open Idealize.ShloMosaic

/-- The row's maximum over its scores and the sink. -/
def top {n : Nat} (s : Fin n → EReal) (k : EReal) : EReal := max (Finset.univ.fold max ⊥ s) k

/-- The row's denominator: the exponentials' sum and the sink's exponential. -/
def den {n : Nat} (s : Fin n → EReal) (k : EReal) : EReal := ∑ j, Ideal.exp (s j - top s k) + Ideal.exp (k - top s k)

/-- The exponential is never negative. -/
theorem exp_nonneg (x : EReal) : 0 ≤ Ideal.exp x := by
  induction x using EReal.rec with
  | bot => exact le_refl _
  | top => exact le_top
  | coe r => exact EReal.coe_nonneg.mpr (Real.exp_pos r).le

/-- It is zero at `⊥` alone. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- No inverse is `⊤`. -/
theorem inv_ne_top (x : EReal) : x⁻¹ ≠ ⊤ := by
  induction x using EReal.rec with
  | bot => simp
  | top => simp
  | coe r => rw [← EReal.coe_inv]; exact EReal.coe_ne_top _

/-- A sum times a factor in `[0, ⊤)` is the sum of the products. -/
theorem sum_mul_of_nonneg {ι : Type} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

/-- The row's maximum is below `⊤` when every score and the sink are. -/
theorem top_lt {n : Nat} {s : Fin n → EReal} {k : EReal} (hs : ∀ j, s j < ⊤) (hk : k < ⊤) : top s k < ⊤ :=
  max_lt ((Finset.fold_max_lt _).mpr ⟨bot_lt_top, fun j _ => hs j⟩) hk

/-- The denominator is not zero: the sink's exponential is positive. -/
theorem den_pos {n : Nat} {s : Fin n → EReal} {k : EReal} (hs : ∀ j, s j < ⊤) (hk : k ≠ ⊥) (hk' : k < ⊤) : 0 < den s k := by
  have h : k - top s k ≠ ⊥ := by
    have ht := (top_lt hs hk').ne
    rw [sub_eq_add_neg, Ne, EReal.add_eq_bot_iff, EReal.neg_eq_bot_iff]
    tauto
  exact lt_of_lt_of_le (exp_pos h) (le_add_of_nonneg_left (Finset.sum_nonneg fun j _ => exp_nonneg _))

/-- The row: the weighted values divided once are the values weighted by the divided exponentials. The values need only
    agree where the score is not `⊥` (a masked key weighs nothing). -/
theorem div_sum {n : Nat} {s : Fin n → EReal} {k : EReal} (v v' : Fin n → EReal) (hs : ∀ j, s j < ⊤) (hk : k ≠ ⊥) (hk' : k < ⊤)
    (hv : ∀ j, s j ≠ ⊥ → v j = v' j) :
    Ideal.div (∑ j, Ideal.exp (s j - top s k) * v j) (den s k)
      = ∑ j, v' j * Ideal.div (Ideal.exp (s j - top s k)) (den s k) := by
  have hd := den_pos hs hk hk'
  unfold Ideal.div
  simp only [if_neg hd.ne']
  rw [sum_mul_of_nonneg _ _ (EReal.inv_nonneg_of_nonneg hd.le) (inv_ne_top _)]
  refine Finset.sum_congr rfl fun j _ => ?_
  by_cases h : s j = ⊥
  · have e : Ideal.exp (s j - top s k) = 0 := by rw [h, sub_eq_add_neg, EReal.bot_add]; rfl
    rw [e, zero_mul, zero_mul, mul_zero]
  · rw [hv j h, mul_comm _ (v' j), mul_assoc]

/-- A sum of reals is a real. -/
theorem sum_real {ι : Type} (S : Finset ι) (f : ι → EReal) (h : ∀ i, ∃ r : ℝ, f i = (r : EReal)) : ∃ r : ℝ, ∑ i ∈ S, f i = (r : EReal) := by
  classical
  induction S using Finset.induction_on with
  | empty => exact ⟨0, by simp⟩
  | insert a S ha ih =>
    obtain ⟨p, hp⟩ := ih; obtain ⟨q, hq⟩ := h a
    exact ⟨q + p, by rw [Finset.sum_insert ha, hp, hq, EReal.coe_add]⟩

/-- What is strictly between the infinities in absolute value is a real. -/
theorem real_of_abs_lt {x : EReal} (h : max x (-x) < ⊤) : ∃ r : ℝ, x = (r : EReal) := by
  induction x using EReal.rec with
  | bot => simp at h
  | top => simp at h
  | coe r => exact ⟨r, rfl⟩

end Cert.Att
-- ==== Proof.WoSpec.lean ====
/-
  The output projection as a function of its arrays: the residual rows, their modulated norm, and the router's scores; and that
  a modulated row is real whatever the rows hold.
-/
module
public import proofs.«01_k».proof.Proof.InSpec
public import proofs.«01_k».proof.Proof.Soft
@[expose] public section
noncomputable section
namespace Cert.Wo
open Idealize.ShloMosaic Idealize.ShloMosaic.Tactic

/-- A number that is neither infinity. -/
def Real (x : EReal) : Prop := ∃ r : ℝ, x = (r : EReal)

theorem Real.add {x y : EReal} (hx : Real x) (hy : Real y) : Real (x + y) := by
  obtain ⟨a, rfl⟩ := hx
  obtain ⟨b, rfl⟩ := hy
  exact ⟨a + b, (EReal.coe_add a b).symm⟩

theorem Real.mul {x y : EReal} (hx : Real x) (hy : Real y) : Real (x * y) := by
  obtain ⟨a, rfl⟩ := hx
  obtain ⟨b, rfl⟩ := hy
  exact ⟨a * b, (EReal.coe_mul a b).symm⟩

/-- A real number less itself is zero. -/
theorem Real.sub_self {x : EReal} (hx : Real x) : x - x = 0 := by
  obtain ⟨a, rfl⟩ := hx
  rw [← EReal.coe_sub, _root_.sub_self, EReal.coe_zero]

/-- The inverse root of a positive number is real. -/
theorem real_rsqrt {r : ℝ} (h : 0 < r) : Real (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.mpr h.le), if_neg h.ne']

/-- The number of columns the mean divides by. -/
theorem cols : Ideal.ofBits .f32 0x45000000#32 = ((2048 : ℝ) : EReal) := by
  have e : ((2048 : ℝ) : EReal) = ((8388608 * (2 ^ 12)⁻¹ : ℝ) : EReal) := by norm_num
  rw [e, EReal.coe_mul]
  simp [Ideal.ofBits, Ideal.ieee]

/-- The mean's offset. -/
theorem offset : Ideal.ofBits .f32 0x358637BD#32 = ((8796093 * (2 ^ 43)⁻¹ : ℝ) : EReal) := by
  rw [EReal.coe_mul]
  simp [Ideal.ofBits, Ideal.ieee]

/-- A square is not negative. -/
theorem sq_nonneg (x : EReal) : 0 ≤ x * x := by
  induction x with
  | bot => simp
  | coe a => rw [← EReal.coe_mul]; exact_mod_cast mul_self_nonneg a
  | top => simp

/-- The square of an infinity is the infinity. -/
theorem sq_of_not_real {x : EReal} (h : ¬ Real x) : x * x = ⊤ := by
  induction x with
  | bot => simp
  | coe a => exact absurd ⟨a, rfl⟩ h
  | top => simp

/-- A normed element of any row is real: a row with an infinity in it has norm zero. -/
theorem unit_real (v : Fin 2048 → EReal) (k : Fin 2048) :
    Real (v k * Ideal.rsqrt (Ideal.div (∑ j : Fin 2048, v j * v j) (Ideal.ofBits .f32 0x45000000#32) + Ideal.ofBits .f32 0x358637BD#32)) := by
  by_cases hv : ∀ j, Real (v j)
  swap
  · obtain ⟨i, hi⟩ := not_forall.mp hv
    have rest : (∑ j ∈ Finset.univ.erase i, v j * v j) ≠ ⊥ := by
      have := Finset.sum_nonneg (s := Finset.univ.erase i) (f := fun j => v j * v j) fun j _ => sq_nonneg (v j)
      exact ne_of_gt (lt_of_lt_of_le EReal.bot_lt_zero this)
    have hs : ∑ j : Fin 2048, v j * v j = ⊤ := by
      rw [← Finset.add_sum_erase _ _ (Finset.mem_univ i), sq_of_not_real hi]
      exact EReal.top_add_of_ne_bot rest
    have hd : Ideal.div ⊤ (Ideal.ofBits .f32 0x45000000#32) + Ideal.ofBits .f32 0x358637BD#32 = ⊤ := by
      rw [cols, offset]
      unfold Ideal.div
      rw [if_neg (by norm_num), ← EReal.coe_inv, EReal.top_mul_coe_of_pos (by norm_num), EReal.top_add_coe]
    have hr : Ideal.rsqrt ⊤ = 0 := rfl
    rw [hs, hd, hr, mul_zero]
    exact ⟨0, rfl⟩
  choose f hf using hv
  have hs : ∑ j : Fin 2048, v j * v j = ((∑ j : Fin 2048, f j * f j : ℝ) : EReal) := by
    have step : ∀ S : Finset (Fin 2048), ∑ j ∈ S, v j * v j = ((∑ j ∈ S, f j * f j : ℝ) : EReal) := fun S => by
      induction S using Finset.induction_on with
      | empty => simp
      | insert a S ha ih => rw [Finset.sum_insert ha, Finset.sum_insert ha, ih, hf, EReal.coe_add, EReal.coe_mul]
    exact step Finset.univ
  have h0 : 0 ≤ ∑ j : Fin 2048, f j * f j := Finset.sum_nonneg fun j _ => mul_self_nonneg _
  have hd : Ideal.div (∑ j : Fin 2048, v j * v j) (Ideal.ofBits .f32 0x45000000#32) + Ideal.ofBits .f32 0x358637BD#32
      = (((∑ j : Fin 2048, f j * f j) * 2048⁻¹ + 8796093 * (2 ^ 43)⁻¹ : ℝ) : EReal) := by
    rw [hs, cols, offset]
    unfold Ideal.div
    rw [if_neg (by norm_num), ← EReal.coe_inv, ← EReal.coe_mul, ← EReal.coe_add]
  rw [hd]
  refine Real.mul ⟨f k, hf k⟩ (real_rsqrt ?_)
  have : (0 : ℝ) < 8796093 * (2 ^ 43)⁻¹ := by norm_num
  have := mul_nonneg h0 (by norm_num : (0 : ℝ) ≤ 2048⁻¹)
  linarith

/-- A modulated element is real where the gain, the scale and the shift are. -/
theorem norm_real (v : Fin 2048 → EReal) {g sc sh : EReal} (hg : Real g) (hsc : Real sc) (hsh : Real sh) (k : Fin 2048) :
    Real (Inp.norm v g sc sh k) := by
  have one : Real (1 : EReal) := ⟨1, EReal.coe_one.symm⟩
  unfold Inp.norm
  exact (((unit_real v k).mul hg).mul (one.add hsc)).add hsh

section
variable (oa ov : (⟨3, ![2, 4096, 1024]⟩ : Shape).Idx → EReal) (x : (⟨3, ![2, 4096, 2048]⟩ : Shape).Idx → EReal)
  (w : (⟨2, ![2048, 2048]⟩ : Shape).Idx → EReal) (gt : (⟨2, ![2, 2048]⟩ : Shape).Idx → EReal) (g : (⟨1, ![2048]⟩ : Shape).Idx → EReal)
  (sh sc : (⟨2, ![2, 2048]⟩ : Shape).Idx → EReal) (wg : (⟨2, ![2048, 8]⟩ : Shape).Idx → EReal) (bg : (⟨1, ![8]⟩ : Shape).Idx → EReal)
  (we : (⟨2, ![2048, 64]⟩ : Shape).Idx → EReal) (be : (⟨1, ![64]⟩ : Shape).Idx → EReal)

/-- The mixers' output times the weights: the attention's half and the recurrence's half. -/
def mixed (b : Fin 2) (t : Fin 4096) (e : Fin 2048) : EReal :=
  (∑ k : Fin 1024, oa (ix3 b t k) * w (ix2 ⟨k.val, by omega⟩ e))
    + ∑ k : Fin 1024, ov (ix3 b t k) * w (ix2 ⟨1024 + k.val, by omega⟩ e)

/-- The row with the gated mixers' output added. -/
def x1 (b : Fin 2) (t : Fin 4096) (e : Fin 2048) : EReal := x (ix3 b t e) + gt (ix2 b e) * mixed oa ov w b t e

/-- The row's modulated norm. -/
def h2 (b : Fin 2) (t : Fin 4096) (k : Fin 2048) : EReal :=
  Inp.norm (x1 oa ov x w gt b t) (g (ix1 k)) (sc (ix2 b k)) (sh (ix2 b k)) k

/-- The router's weights: groups, experts, then zeros. -/
def wr (k : Fin 2048) (j : Fin 128) : EReal :=
  if h : j.val < 8 then wg (ix2 k ⟨j.val, h⟩) else if h : j.val < 72 then we (ix2 k ⟨j.val - 8, by omega⟩) else 0

/-- The router's biases, likewise. -/
def br (j : Fin 128) : EReal :=
  if h : j.val < 8 then bg (ix1 ⟨j.val, h⟩) else if h : j.val < 72 then be (ix1 ⟨j.val - 8, by omega⟩) else 0

/-- The router's scores. -/
def lg (b : Fin 2) (t : Fin 4096) (j : Fin 128) : EReal :=
  (∑ k : Fin 2048, h2 oa ov x w gt g sh sc b t k * wr wg we k j) + br bg be j

/-- The residual rows as an array, the sequences under one another. -/
def arrX : (⟨2, ![8192, 2048]⟩ : Shape).Idx → EReal := fun i =>
  x1 oa ov x w gt ⟨(i 0).val / 4096, Nat.div_lt_of_lt_mul (i 0).isLt⟩ ⟨(i 0).val % 4096, Nat.mod_lt _ (by decide)⟩ (i 1)

/-- Their modulated norm as an array. -/
def arrH : (⟨2, ![8192, 2048]⟩ : Shape).Idx → EReal := fun i =>
  h2 oa ov x w gt g sh sc ⟨(i 0).val / 4096, Nat.div_lt_of_lt_mul (i 0).isLt⟩ ⟨(i 0).val % 4096, Nat.mod_lt _ (by decide)⟩ (i 1)

/-- The router's scores as an array. -/
def arrL : (⟨2, ![8192, 128]⟩ : Shape).Idx → EReal := fun i =>
  lg oa ov x w gt g sh sc wg bg we be ⟨(i 0).val / 4096, Nat.div_lt_of_lt_mul (i 0).isLt⟩ ⟨(i 0).val % 4096, Nat.mod_lt _ (by decide)⟩ (i 1)

/-- Past the router's columns the scores are zero. -/
theorem lg_pad (b : Fin 2) (t : Fin 4096) (j : Fin 128) (h : 72 ≤ j.val) : lg oa ov x w gt g sh sc wg bg we be b t j = 0 := by
  have e : ∀ k, wr wg we k j = 0 := fun k => by
    unfold wr
    rw [dif_neg (by omega), dif_neg (by omega)]
  unfold lg br
  rw [dif_neg (by omega), dif_neg (by omega), add_zero]
  exact Finset.sum_eq_zero fun k _ => by rw [e, mul_zero]

variable {oa ov x w gt g sh sc wg we}

/-- The modulated norm is real where the gains, the shifts and the scales are. -/
theorem h2_real (hg : ∀ k, Real (g (ix1 k))) (hsh : ∀ b e, Real (sh (ix2 b e))) (hsc : ∀ b e, Real (sc (ix2 b e)))
    (b : Fin 2) (t : Fin 4096) (k : Fin 2048) : Real (h2 oa ov x w gt g sh sc b t k) :=
  norm_real _ (hg k) (hsc b k) (hsh b k) k

/-- The router's weights are real. -/
theorem wr_real (hwg : ∀ k e, Real (wg (ix2 k e))) (hwe : ∀ k e, Real (we (ix2 k e))) (k : Fin 2048) (j : Fin 128) :
    Real (wr wg we k j) := by
  unfold wr
  split_ifs
  · exact hwg _ _
  · exact hwe _ _
  · exact ⟨0, rfl⟩

end
end Cert.Wo
-- ==== Proof.WoHost.lean ====
/-
  What the host code in front of the output projection leaves, and the blocks each point reads of it.
-/
module
public import proofs.«01_k».proof.Proof.Gen.Kernel3Ideal.Value
public import proofs.«01_k».proof.Proof.WoSpec
public import Idealize.ShloMosaic.Lib.Pointwise
public import Idealize.ShloMosaic.Lib.Pipeline.ValueKit
@[expose] public section
set_option maxRecDepth 16384
noncomputable section
namespace Cert.Kernel3Ideal.Wo
open Idealize.ShloMosaic.Tactic Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The attention's output. -/
abbrev aoa : S2x4096x1024.Idx → EReal := m ((c.tc : Thread nD τ).loc main_arg0)
/-- The recurrence's output. -/
abbrev aov : S2x4096x1024.Idx → EReal := m ((c.tc : Thread nD τ).loc main_arg1)
/-- The rows. -/
abbrev ax : S2x4096x2048.Idx → EReal := m ((c.tc : Thread nD τ).loc main_arg2)
/-- The weights. -/
abbrev aw : S2048x2048.Idx → EReal := m ((c.tc : Thread nD τ).loc main_arg3)
/-- The gates. -/
abbrev agt : S2x2048.Idx → EReal := m ((c.tc : Thread nD τ).loc main_arg4)
/-- The gains. -/
abbrev ag : S2048.Idx → EReal := m ((c.tc : Thread nD τ).loc main_arg5)
/-- The shifts. -/
abbrev ash : S2x2048.Idx → EReal := m ((c.tc : Thread nD τ).loc main_arg6)
/-- The scales. -/
abbrev asc : S2x2048.Idx → EReal := m ((c.tc : Thread nD τ).loc main_arg7)
/-- The groups' weights. -/
abbrev awg : S2048x8.Idx → EReal := m ((c.tc : Thread nD τ).loc main_arg8)
/-- The groups' biases. -/
abbrev abg : S8.Idx → EReal := m ((c.tc : Thread nD τ).loc main_arg9)
/-- The experts' weights. -/
abbrev awe : S2048x64.Idx → EReal := m ((c.tc : Thread nD τ).loc main_arg10)
/-- The experts' biases. -/
abbrev abe : S64.Idx → EReal := m ((c.tc : Thread nD τ).loc main_arg11)

/-- The zero the host pads with. -/
def zero : FVec Ideal S_ .f32 := sitofp .f32 (constantI S_ 32 0#32)

/-- The integer zero converts to zero. -/
theorem cvt_zero : (FloatOps.sitofp FTy.f32 0#32 : Ideal .f32) = 0 := by
  show (((0#32 : BitVec 32).toInt : ℝ) : EReal) = 0
  simp

/-- The router's weights side by side, padded to the lanes. -/
def wrV (a : FVec Ideal S2048x8 .f32) (b : FVec Ideal S2048x64 .f32) : FVec Ideal S2048x128 .f32 :=
  pad S2048x128 ![0, 0] ![0, 56] ![0, 0] (concatenate S2048x72 1 [⟨S2048x8, a⟩, ⟨S2048x64, b⟩] concatenates_S2048x8_S2048x64_S2048x72_d1)
    zero pads_S2048x72_S2048x128_000_0560 h_S_

/-- The router's biases likewise. -/
def brV (a : FVec Ideal S8 .f32) (b : FVec Ideal S64 .f32) : FVec Ideal S128 .f32 :=
  pad S128 ![0] ![56] ![0] (concatenate S72 0 [⟨S8, a⟩, ⟨S64, b⟩] concatenates_S8_S64_S72_d0) zero pads_S72_S128_0560 h_S_

/-- Two tables side by side. -/
def both (a b : FVec Ideal S2048x128 .bf16) : FVec Ideal S2048x256 .bf16 :=
  concatenate S2048x256 1 [⟨S2048x128, a⟩, ⟨S2048x128, b⟩] concatenates_S2048x128_S2048x128_S2048x256_d1

/-- The rounded weights. -/
def hiV (w : FVec Ideal S2048x128 .f32) : FVec Ideal S2048x128 .bf16 := truncf .bf16 w bitsLt_bf16_f32

/-- What rounding leaves of the weights. -/
def loV (w : FVec Ideal S2048x128 .f32) : FVec Ideal S2048x128 .bf16 :=
  truncf .bf16 (subf w (extf .f32 (truncf (F := Ideal) (φ := .f32) .bf16 w bitsLt_bf16_f32) bitsLt_bf16_f32)) bitsLt_bf16_f32

/-- The arrays the host code leaves, as its operations of the arguments. -/
theorem V_all :
    (V m c main_v10 = shapeCast S8192x1024 (aoa m c) shapeCasts_S2x4096x1024_S8192x1024)
    ∧ (V m c main_v11 = shapeCast S8192x1024 (aov m c) shapeCasts_S2x4096x1024_S8192x1024)
    ∧ (V m c main_v0 = shapeCast S8192x2048 (ax m c) shapeCasts_S2x4096x2048_S8192x2048)
    ∧ (V m c main_v12 = truncf (F := Ideal) (φ := .f32) .bf16 (aw m c) bitsLt_bf16_f32)
    ∧ (V m c main_v13 = shapeCast S2x1x2048 (agt m c) shapeCasts_S2x2048_S2x1x2048)
    ∧ (V m c main_v14 = shapeCast S1x2048 (ag m c) shapeCasts_S2048_S1x2048)
    ∧ (V m c main_v15 = shapeCast S2x1x2048 (ash m c) shapeCasts_S2x2048_S2x1x2048)
    ∧ (V m c main_v16 = shapeCast S2x1x2048 (asc m c) shapeCasts_S2x2048_S2x1x2048)
    ∧ (V m c main_v17 = both (hiV (wrV (awg m c) (awe m c))) (loV (wrV (awg m c) (awe m c))))
    ∧ (V m c main_v3 = hiV (wrV (awg m c) (awe m c)))
    ∧ (V m c main_v9 = shapeCast S1x128 (brV (abg m c) (abe m c)) shapeCasts_S128_S1x128) := by
  refine ⟨?_, ?_, ?_, ?_, ?_, ?_, ?_, ?_, ?_, ?_, ?_⟩ <;>
  · show StableHlo.after (List.flatten [hostOps0, hostOps0_1, hostOps0_2, hostOps0_3, hostOps0_4]) _ _ = _
    simp only [List.flatten_cons, List.flatten_nil, List.append_nil, List.cons_append, List.nil_append,
      StableHlo.TRef.binary, StableHlo.TRef.unary, StableHlo.TRef.toBuf, StableHlo.TRef.ofBuf, cast_eq]
    after_results_simp <;> (try dsimp only [Matrix.cons_val]) <;> (try after_results_simp) <;> rfl

/-- The padded weights at an index. -/
theorem wr_apply (a : FVec Ideal S2048x8 .f32) (b : FVec Ideal S2048x64 .f32) (k : Fin 2048) (j : Fin 128) :
    wrV a b (ix2 k j) = Cert.Wo.wr a b k j := by
  unfold Cert.Wo.wr
  by_cases h : j.val < 8
  · rw [dif_pos h]
    pointwise [wrV]
    rw [dif_pos (show j.val < 72 by omega), dif_pos h]
  · rw [dif_neg h]
    by_cases h' : j.val < 72
    · rw [dif_pos h']
      pointwise [wrV]
      rw [dif_pos h', dif_neg h]
    · rw [dif_neg h']
      pointwise [wrV, zero]
      rw [dif_neg h']
      exact cvt_zero

/-- The padded biases at an index. -/
theorem br_apply (a : FVec Ideal S8 .f32) (b : FVec Ideal S64 .f32) (j : Fin 128) : brV a b (ix1 j) = Cert.Wo.br a b j := by
  unfold Cert.Wo.br
  by_cases h : j.val < 8
  · rw [dif_pos h]
    pointwise [brV]
    rw [dif_pos (show j.val < 72 by omega), dif_pos h]
  · rw [dif_neg h]
    by_cases h' : j.val < 72
    · rw [dif_pos h']
      pointwise [brV]
      rw [dif_pos h', dif_neg h]
    · rw [dif_neg h']
      pointwise [brV, zero]
      rw [dif_neg h']
      exact cvt_zero

/-- The left table. -/
theorem both_left (a b : FVec Ideal S2048x128 .bf16) (k : Fin 2048) (j : Fin 128) : both a b (ix2 k ⟨j.val, by omega⟩) = a (ix2 k j) := by
  pointwise [both]

/-- The right table. -/
theorem both_right (a b : FVec Ideal S2048x128 .bf16) (k : Fin 2048) (j : Fin 128) :
    both a b (ix2 k ⟨128 + j.val, by omega⟩) = b (ix2 k j) := by
  pointwise [both]

/-! The block indices of the windows. -/

theorem ix_0 : ∀ t : Fin grid0.N, win0_0.index t = ![t.val, 0] := by decide +kernel
theorem ix_1 : ∀ t : Fin grid0.N, win0_1.index t = ![t.val, 0] := by decide +kernel
theorem ix_2 : ∀ t : Fin grid0.N, win0_2.index t = ![t.val, 0] := by decide +kernel
theorem ix_3 : ∀ t : Fin grid0.N, win0_3.index t = ![0, 0] := by decide +kernel
theorem ix_4 : ∀ t : Fin grid0.N, win0_4.index t = ![t.val / 16, 0, 0] := by decide +kernel
theorem ix_5 : ∀ t : Fin grid0.N, win0_5.index t = ![0, 0] := by decide +kernel
theorem ix_6 : ∀ t : Fin grid0.N, win0_6.index t = ![t.val / 16, 0, 0] := by decide +kernel
theorem ix_7 : ∀ t : Fin grid0.N, win0_7.index t = ![t.val / 16, 0, 0] := by decide +kernel
theorem ix_8 : ∀ t : Fin grid0.N, win0_8.index t = ![0, 0] := by decide +kernel
theorem ix_9 : ∀ t : Fin grid0.N, win0_9.index t = ![0, 0] := by decide +kernel
theorem ix_10 : ∀ t : Fin grid0.N, win0_10.index t = ![0, 0] := by decide +kernel
theorem ix_11 : ∀ t : Fin grid0.N, win0_11.index t = ![t.val, 0] := by decide +kernel
theorem ix_12 : ∀ t : Fin grid0.N, win0_12.index t = ![t.val, 0] := by decide +kernel
theorem ix_13 : ∀ t : Fin grid0.N, win0_13.index t = ![t.val, 0] := by decide +kernel

/-! The blocks, as parts of the arguments: point `t` works on rows `256 n` to `256 n + 256` of sequence `b`. -/

section
variable (t : Fin cfg0.N) (b : Fin 2) (n : Fin 16) (hb : t.val / 16 = b.val) (hn : t.val % 16 = n.val)
include hb hn

/-- A row of the flattened sequences, back in its sequence. -/
theorem row_eq {W : Nat} (f : (⟨3, ![2, 4096, W]⟩ : Shape).Idx → EReal) (r : Fin 256) (k : Fin W) :
    f (ix3 ⟨(t.val * 256 + r.val) / 4096, by have : t.val < 32 := t.isLt; omega⟩
        ⟨(t.val * 256 + r.val) % 4096, Nat.mod_lt _ (by decide)⟩ k)
      = f (ix3 b ⟨n.val * 256 + r.val, by omega⟩ k) := by
  have hp : (⟨(t.val * 256 + r.val) / 4096, by have : t.val < 32 := t.isLt; omega⟩ : Fin 2) = b := Fin.ext (by dsimp only; omega)
  have hq : (⟨(t.val * 256 + r.val) % 4096, Nat.mod_lt _ (by decide)⟩ : Fin 4096) = ⟨n.val * 256 + r.val, by omega⟩ :=
    Fin.ext (by dsimp only; omega)
  exact congrArg₂ (fun p q => f (ix3 p q k)) hp hq

/-- The attention's output. -/
theorem rd_0 (r : Fin 256) (k : Fin 1024) : iblk m c 0 t (ix2 r k) = aoa m c (ix3 b ⟨n.val * 256 + r.val, by omega⟩ k) := by
  have e : iblk m c 0 t (ix2 r k) = V m c main_v10 (ix2 (⟨t.val * 256 + r.val, by have : t.val < 32 := t.isLt; omega⟩ : Fin 8192) k) := by
    blk_ext [iblk, ix_0 t]
  rw [e, (V_all m c).1]
  pointwise
  exact row_eq t b n hb hn (aoa m c) r k

/-- The recurrence's output. -/
theorem rd_1 (r : Fin 256) (k : Fin 1024) : iblk m c 1 t (ix2 r k) = aov m c (ix3 b ⟨n.val * 256 + r.val, by omega⟩ k) := by
  have e : iblk m c 1 t (ix2 r k) = V m c main_v11 (ix2 (⟨t.val * 256 + r.val, by have : t.val < 32 := t.isLt; omega⟩ : Fin 8192) k) := by
    blk_ext [iblk, ix_1 t]
  rw [e, (V_all m c).2.1]
  pointwise
  exact row_eq t b n hb hn (aov m c) r k

/-- The rows. -/
theorem rd_2 (r : Fin 256) (k : Fin 2048) : iblk m c 2 t (ix2 r k) = ax m c (ix3 b ⟨n.val * 256 + r.val, by omega⟩ k) := by
  have e : iblk m c 2 t (ix2 r k) = V m c main_v0 (ix2 (⟨t.val * 256 + r.val, by have : t.val < 32 := t.isLt; omega⟩ : Fin 8192) k) := by
    blk_ext [iblk, ix_2 t]
  rw [e, (V_all m c).2.2.1]
  pointwise
  exact row_eq t b n hb hn (ax m c) r k

/-- The sequence's gates. -/
theorem rd_4 (k : Fin 2048) : iblk m c 4 t (ix3 0 0 k) = agt m c (ix2 b k) := by
  have e : iblk m c 4 t (ix3 0 0 k) = V m c main_v13 (ix3 b (0 : Fin 1) k) := by
    blk_ext [iblk, ix_4 t]
  rw [e, (V_all m c).2.2.2.2.1]
  pointwise

/-- The sequence's shifts. -/
theorem rd_6 (k : Fin 2048) : iblk m c 6 t (ix3 0 0 k) = ash m c (ix2 b k) := by
  have e : iblk m c 6 t (ix3 0 0 k) = V m c main_v15 (ix3 b (0 : Fin 1) k) := by
    blk_ext [iblk, ix_6 t]
  rw [e, (V_all m c).2.2.2.2.2.2.1]
  pointwise

/-- The sequence's scales. -/
theorem rd_7 (k : Fin 2048) : iblk m c 7 t (ix3 0 0 k) = asc m c (ix2 b k) := by
  have e : iblk m c 7 t (ix3 0 0 k) = V m c main_v16 (ix3 b (0 : Fin 1) k) := by
    blk_ext [iblk, ix_7 t]
  rw [e, (V_all m c).2.2.2.2.2.2.2.1]
  pointwise
end

/-- The weights. -/
theorem rd_3 (t : Fin cfg0.N) (k e : Fin 2048) : iblk m c 3 t (ix2 k e) = aw m c (ix2 k e) := by
  have h : iblk m c 3 t (ix2 k e) = V m c main_v12 (ix2 k e) := by
    blk_ext [iblk, ix_3 t]
  rw [h, (V_all m c).2.2.2.1]
  pointwise

/-- The gains. -/
theorem rd_5 (t : Fin cfg0.N) (k : Fin 2048) : iblk m c 5 t (ix2 0 k) = ag m c (ix1 k) := by
  have e : iblk m c 5 t (ix2 0 k) = V m c main_v14 (ix2 (0 : Fin 1) k) := by
    blk_ext [iblk, ix_5 t]
  rw [e, (V_all m c).2.2.2.2.2.1]
  pointwise

/-- The router's rounded weights. -/
theorem rd_8l (t : Fin cfg0.N) (k : Fin 2048) (j : Fin 128) :
    iblk m c 8 t (ix2 k (⟨j.val, by omega⟩ : Fin 256)) = Cert.Wo.wr (awg m c) (awe m c) k j := by
  have h : iblk m c 8 t (ix2 k (⟨j.val, by omega⟩ : Fin 256)) = V m c main_v17 (ix2 k (⟨j.val, by omega⟩ : Fin 256)) := by
    blk_ext [iblk, ix_8 t]
  rw [h, (V_all m c).2.2.2.2.2.2.2.2.1, both_left]
  exact wr_apply _ _ k j

/-- What rounding leaves of them. -/
theorem rd_8r (t : Fin cfg0.N) (k : Fin 2048) (j : Fin 128) :
    iblk m c 8 t (ix2 k (⟨128 + j.val, by omega⟩ : Fin 256))
      = Cert.Wo.wr (awg m c) (awe m c) k j - Cert.Wo.wr (awg m c) (awe m c) k j := by
  have h : iblk m c 8 t (ix2 k (⟨128 + j.val, by omega⟩ : Fin 256)) = V m c main_v17 (ix2 k (⟨128 + j.val, by omega⟩ : Fin 256)) := by
    blk_ext [iblk, ix_8 t]
  rw [h, (V_all m c).2.2.2.2.2.2.2.2.1, both_right]
  exact congrArg₂ (· - ·) (wr_apply _ _ k j) (wr_apply _ _ k j)

/-- The rounded weights by themselves. -/
theorem rd_9 (t : Fin cfg0.N) (k : Fin 2048) (j : Fin 128) : iblk m c 9 t (ix2 k j) = Cert.Wo.wr (awg m c) (awe m c) k j := by
  have h : iblk m c 9 t (ix2 k j) = V m c main_v3 (ix2 k j) := by
    blk_ext [iblk, ix_9 t]
  rw [h, (V_all m c).2.2.2.2.2.2.2.2.2.1]
  exact wr_apply _ _ k j

/-- The router's biases. -/
theorem rd_10 (t : Fin cfg0.N) (j : Fin 128) : iblk m c 10 t (ix2 0 j) = Cert.Wo.br (abg m c) (abe m c) j := by
  have h : iblk m c 10 t (ix2 0 j) = V m c main_v9 (ix2 (0 : Fin 1) j) := by
    blk_ext [iblk, ix_10 t]
  rw [h, (V_all m c).2.2.2.2.2.2.2.2.2.2]
  refine Eq.trans ?_ (br_apply _ _ j)
  pointwise

end Cert.Kernel3Ideal.Wo
-- ==== Proof.WoVal.lean ====
/-
  The blocks a grid point of the output projection leaves, at an index.
-/
module
public import proofs.«01_k».proof.Proof.Gen.Kernel3Ideal.Value
public import proofs.«01_k».proof.Proof.InSpec
public import Idealize.ShloMosaic.PureOps.Ideal
public import Idealize.ShloMosaic.Lib.Pointwise
public import Idealize.ShloMosaic.Lib.Pipeline.ValueKit
@[expose] public section
set_option maxRecDepth 16384
noncomputable section
namespace Cert.Kernel3Ideal.Wo
open Idealize.ShloMosaic.Tactic Cert.Kernel3Ideal Cert.Kernel3Ideal.Gen Idealize.ShloMosaic Idealize.ShloMosaic.TcCoe Idealize.SL.Sem

/-- The residual rows at an index. -/
theorem pay4_apply (v0 : Vec Ideal S256x1024 .bf16) (v2 : Vec Ideal S1024x2048 .bf16) (v5 : Vec Ideal S256x1024 .bf16)
    (v7 : Vec Ideal S1024x2048 .bf16) (v11 : Vec Ideal S256x2048 .f32) (v13 : Vec Ideal S1x1x2048 .f32) (r : Fin 256) (e : Fin 2048) :
    k0_pay4 (F := Ideal) v0 v2 v5 v7 v11 v13 (ix2 r e)
      = v11 (ix2 r e) + v13 (ix3 0 0 e) * ((∑ k : Fin 1024, v0 (ix2 r k) * v2 (ix2 k e)) + ∑ k : Fin 1024, v5 (ix2 r k) * v7 (ix2 k e)) := by
  pointwise [k0_pay4]

/-- The modulated norm of the rows `X`. -/
def mod (X : FVec Ideal S256x2048 .f32) (g : Vec Ideal S1x2048 .f32) (sc sh : Vec Ideal S1x1x2048 .f32) (r : Fin 256) (k : Fin 2048) : EReal :=
  Inp.norm (fun j => X (ix2 r j)) (g (ix2 0 k)) (sc (ix3 0 0 k)) (sh (ix3 0 0 k)) k

/-- The modulated rows at an index. -/
theorem pay1_apply (v0 : Vec Ideal S256x1024 .bf16) (v2 : Vec Ideal S1024x2048 .bf16) (v5 : Vec Ideal S256x1024 .bf16)
    (v7 : Vec Ideal S1024x2048 .bf16) (v11 : Vec Ideal S256x2048 .f32) (v13 : Vec Ideal S1x1x2048 .f32) (g : Vec Ideal S1x2048 .f32)
    (sc sh : Vec Ideal S1x1x2048 .f32) (r : Fin 256) (k : Fin 2048) :
    k0_pay1 (F := Ideal) (k0_pay5 v0 v2 v5 v7 v11 v13 g) sc sh (ix2 r k) = mod (k0_pay4 v0 v2 v5 v7 v11 v13) g sc sh r k := by
  unfold k0_pay5
  generalize k0_pay4 v0 v2 v5 v7 v11 v13 = X
  pointwise [k0_pay1]
  rfl

/-- The router's scores at an index. -/
theorem pay3_apply (H : FVec Ideal S256x2048 .f32) (sc sh : Vec Ideal S1x1x2048 .f32) (w2 : Vec Ideal S2048x256 .bf16)
    (w1 : Vec Ideal S2048x128 .bf16) (br : Vec Ideal S1x128 .f32) (r : Fin 256) (j : Fin 128) (f : Fin 2048 → EReal)
    (hf : ∀ k, k0_pay1 (F := Ideal) H sc sh (ix2 r k) = f k) :
    k0_pay3 (F := Ideal) H sc sh w2 w1 br (ix2 r j)
      = (∑ k : Fin 2048, f k * w2 (ix2 k ⟨j.val, by omega⟩)) + (∑ k : Fin 2048, f k * w2 (ix2 k ⟨128 + j.val, by omega⟩))
        + (∑ k : Fin 2048, (f k - f k) * w1 (ix2 k j)) + br (ix2 0 j) := by
  have e : f = fun k => k0_pay1 (F := Ideal) H sc sh (ix2 r k) := funext fun k => (hf k).symm
  subst e
  unfold k0_pay3 k0_pay2
  generalize k0_pay1 H sc sh = Y
  pointwise

section
variable (x0 x1 : Vec Ideal S256x1024 .bf16) (x2 : Vec Ideal S256x2048 .f32) (x3 : Vec Ideal S2048x2048 .bf16)
  (x4 : Vec Ideal S1x1x2048 .f32) (x5 : Vec Ideal S1x2048 .f32) (x6 x7 : Vec Ideal S1x1x2048 .f32) (x8 : Vec Ideal S2048x256 .bf16)
  (x9 : Vec Ideal S2048x128 .bf16) (x10 : Vec Ideal S1x128 .f32)

/-- The two zero offsets of a store through a whole block. -/
theorem hz2 : (![0, 0] : Fin 2 → Nat) = fun _ => 0 := funext fun a => by fin_cases a <;> rfl

/-- A residual row of the blocks. -/
def bx (r : Fin 256) (e : Fin 2048) : EReal :=
  x2 (ix2 r e) + x4 (ix3 0 0 e) * ((∑ k : Fin 1024, x0 (ix2 r k) * x3 (ix2 ⟨k.val, by omega⟩ e))
    + ∑ k : Fin 1024, x1 (ix2 r k) * x3 (ix2 ⟨1024 + k.val, by omega⟩ e))

/-- A modulated row of the blocks. -/
def bh (r : Fin 256) (k : Fin 2048) : EReal :=
  Inp.norm (bx x0 x1 x2 x3 x4 r) (x5 (ix2 0 k)) (x7 (ix3 0 0 k)) (x6 (ix3 0 0 k)) k

/-- The residual rows off the blocks. -/
theorem ld4_apply (r : Fin 256) (e : Fin 2048) :
    k0_pay4 (F := Ideal) (View.ld x0 r0_0) (View.ld x3 r0_1) (View.ld x1 r0_0) (View.ld x3 r0_2) (View.ld x2 r0_3) (View.ld x4 r0_4) (ix2 r e)
      = bx x0 x1 x2 x3 x4 r e := by
  rw [pay4_apply]
  unfold bx
  pointwise

/-- The modulated rows off the blocks. -/
theorem ld1_apply (r : Fin 256) (k : Fin 2048) :
    k0_pay1 (F := Ideal) (k0_pay6 x0 x1 x2 x3 x4 x5 x6 x7 x8 x9 x10) (View.ld x7 r0_4) (View.ld x6 r0_4) (ix2 r k)
      = bh x0 x1 x2 x3 x4 x5 x6 x7 r k := by
  unfold k0_pay6
  rw [pay1_apply]
  unfold mod bh
  simp only [ld4_apply]
  pointwise

/-- The residual block. -/
theorem o11_apply (r : Fin 256) (e : Fin 2048) :
    out0_11 (F := Ideal) x0 x1 x2 x3 x4 x5 x6 x7 x8 x9 x10 (ix2 r e) = bx x0 x1 x2 x3 x4 r e := by
  unfold out0_11
  refine (congrFun (View.canon_unit_zero hz2 _ _) _).trans ?_
  exact ld4_apply x0 x1 x2 x3 x4 r e

/-- The modulated block. -/
theorem o12_apply (r : Fin 256) (k : Fin 2048) :
    out0_12 (F := Ideal) x0 x1 x2 x3 x4 x5 x6 x7 x8 x9 x10 (ix2 r k) = bh x0 x1 x2 x3 x4 x5 x6 x7 r k := by
  unfold out0_12
  refine (congrFun (View.canon_unit_zero hz2 _ _) _).trans ?_
  exact ld1_apply x0 x1 x2 x3 x4 x5 x6 x7 x8 x9 x10 r k

/-- The router's block. -/
theorem o13_apply (r : Fin 256) (j : Fin 128) :
    out0_13 (F := Ideal) x0 x1 x2 x3 x4 x5 x6 x7 x8 x9 x10 (ix2 r j)
      = (∑ k : Fin 2048, bh x0 x1 x2 x3 x4 x5 x6 x7 r k * x8 (ix2 k ⟨j.val, by omega⟩))
        + (∑ k : Fin 2048, bh x0 x1 x2 x3 x4 x5 x6 x7 r k * x8 (ix2 k ⟨128 + j.val, by omega⟩))
        + (∑ k : Fin 2048, (bh x0 x1 x2 x3 x4 x5 x6 x7 r k - bh x0 x1 x2 x3 x4 x5 x6 x7 r k) * x9 (ix2 k j)) + x10 (ix2 0 j) := by
  unfold out0_13
  refine (congrFun (View.canon_unit_zero hz2 _ _) _).trans ?_
  refine (pay3_apply _ _ _ _ _ _ r j _ fun k => ld1_apply x0 x1 x2 x3 x4 x5 x6 x7 x8 x9 x10 r k).trans ?_
  pointwise
end

end Cert.Kernel3Ideal.Wo
-- ==== Proof.WoFinal.lean ====
/-
  The output projection's three result arrays after the run: the shared functions of the arguments.
-/
module
public import proofs.«01_k».proof.Proof.WoHost
public import proofs.«01_k».proof.Proof.WoVal
@[expose] public section
set_option maxRecDepth 16384
noncomputable section
namespace Cert.Kernel3Ideal.Wo
open Idealize.ShloMosaic.Tactic Cert.Kernel3Ideal Cert.Kernel3Ideal.Gen Idealize.ShloMosaic Idealize.ShloMosaic.TcCoe Idealize.SL.Sem

variable (m : (ℓ : Loc nD τ sig) → Buf (Elt Ideal) ℓ) (c : Dev nD)

/-- A residual row of the arguments. -/
abbrev x1 (b : Fin 2) (t : Fin 4096) (e : Fin 2048) : EReal := Cert.Wo.x1 (aoa m c) (aov m c) (ax m c) (aw m c) (agt m c) b t e

/-- A modulated row of the arguments. -/
abbrev h2 (b : Fin 2) (t : Fin 4096) (k : Fin 2048) : EReal :=
  Cert.Wo.h2 (aoa m c) (aov m c) (ax m c) (aw m c) (agt m c) (ag m c) (ash m c) (asc m c) b t k

/-- A column of the router's weights. -/
abbrev wr (k : Fin 2048) (j : Fin 128) : EReal := Cert.Wo.wr (awg m c) (awe m c) k j

/-- A score of the router. -/
abbrev lg (b : Fin 2) (t : Fin 4096) (j : Fin 128) : EReal :=
  Cert.Wo.lg (aoa m c) (aov m c) (ax m c) (aw m c) (agt m c) (ag m c) (ash m c) (asc m c) (awg m c) (abg m c) (awe m c) (abe m c) b t j

section
variable (t : Fin cfg0.N) (b : Fin 2) (n : Fin 16) (hb : t.val / 16 = b.val) (hn : t.val % 16 = n.val)
include hb hn

/-- A residual row of the point's blocks. -/
theorem bx_point (r : Fin 256) (e : Fin 2048) :
    bx (iblk m c 0 t) (iblk m c 1 t) (iblk m c 2 t) (iblk m c 3 t) (iblk m c 4 t) r e = x1 m c b ⟨n.val * 256 + r.val, by omega⟩ e := by
  unfold bx x1 Cert.Wo.x1 Cert.Wo.mixed
  refine congrArg₂ (· + ·) (rd_2 m c t b n hb hn r e) (congrArg₂ (· * ·) (rd_4 m c t b n hb hn e) (congrArg₂ (· + ·) ?_ ?_))
  · exact Finset.sum_congr rfl fun k _ => congrArg₂ (· * ·) (rd_0 m c t b n hb hn r k) (rd_3 m c t _ e)
  · exact Finset.sum_congr rfl fun k _ => congrArg₂ (· * ·) (rd_1 m c t b n hb hn r k) (rd_3 m c t _ e)

/-- A modulated row of the point's blocks. -/
theorem bh_point (r : Fin 256) (k : Fin 2048) :
    bh (iblk m c 0 t) (iblk m c 1 t) (iblk m c 2 t) (iblk m c 3 t) (iblk m c 4 t) (iblk m c 5 t) (iblk m c 6 t) (iblk m c 7 t) r k
      = h2 m c b ⟨n.val * 256 + r.val, by omega⟩ k := by
  unfold bh h2 Cert.Wo.h2
  rw [rd_5 m c t k, rd_6 m c t b n hb hn k, rd_7 m c t b n hb hn k]
  exact congrArg (fun v => Inp.norm v _ _ _ k) (funext fun e => bx_point m c t b n hb hn r e)

/-- A score of the point's blocks: the corrections vanish where the modulated rows and the weights are real. -/
theorem lg_point (hh : ∀ b t k, Cert.Wo.Real (h2 m c b t k)) (hw : ∀ k j, Cert.Wo.Real (wr m c k j)) (r : Fin 256) (j : Fin 128) :
    out0_13 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r j)
      = lg m c b ⟨n.val * 256 + r.val, by omega⟩ j := by
  rw [o13_apply]
  unfold lg Cert.Wo.lg
  refine congrArg₂ (· + ·) ?_ (rd_10 m c t j)
  have e1 : (∑ k : Fin 2048, bh (iblk m c 0 t) (iblk m c 1 t) (iblk m c 2 t) (iblk m c 3 t) (iblk m c 4 t) (iblk m c 5 t)
      (iblk m c 6 t) (iblk m c 7 t) r k * iblk m c 8 t (ix2 k (⟨128 + j.val, by omega⟩ : Fin 256))) = 0 :=
    Finset.sum_eq_zero fun k _ => (congrArg _ ((rd_8r m c t k j).trans (hw k j).sub_self)).trans (mul_zero _)
  have e2 : (∑ k : Fin 2048, (bh (iblk m c 0 t) (iblk m c 1 t) (iblk m c 2 t) (iblk m c 3 t) (iblk m c 4 t) (iblk m c 5 t)
      (iblk m c 6 t) (iblk m c 7 t) r k - bh (iblk m c 0 t) (iblk m c 1 t) (iblk m c 2 t) (iblk m c 3 t) (iblk m c 4 t) (iblk m c 5 t)
      (iblk m c 6 t) (iblk m c 7 t) r k) * iblk m c 9 t (ix2 k j)) = 0 :=
    Finset.sum_eq_zero fun k _ => by
      rw [bh_point m c t b n hb hn r k, (hh _ _ k).sub_self, zero_mul]
  refine (congrArg₂ (· + ·) (congrArg₂ (· + ·) rfl e1) e2).trans ?_
  rw [add_zero, add_zero]
  exact Finset.sum_congr rfl fun k _ => congrArg₂ (· * ·) (bh_point m c t b n hb hn r k) (rd_8l m c t k j)
end

/-- What the residual rows' array ends holding. -/
def Gx : S8192x2048.Idx → EReal := Cert.Wo.arrX (aoa m c) (aov m c) (ax m c) (aw m c) (agt m c)

/-- What the modulated rows' array ends holding. -/
def Gh : S8192x2048.Idx → EReal := Cert.Wo.arrH (aoa m c) (aov m c) (ax m c) (aw m c) (agt m c) (ag m c) (ash m c) (asc m c)

/-- What the scores' array ends holding. -/
def Gl : S8192x128.Idx → EReal :=
  Cert.Wo.arrL (aoa m c) (aov m c) (ax m c) (aw m c) (agt m c) (ag m c) (ash m c) (asc m c) (awg m c) (abg m c) (awe m c) (abe m c)

/-- The residual rows' array after the run. -/
theorem final11 : (dats m 0 c).arrAt 11 cfg0.N = Gx m c := by
  refine (dats m 0 c).arrAt_eq_of_covers 11 _ (by decide +kernel) fun t hf y => ?_
  blk_simp
  rw [after0_11]
  have hN : t.val < 32 := t.isLt
  obtain ⟨r, hr⟩ : ∃ r : Fin 256, r.val = (y 0).val := ⟨⟨_, (y 0).isLt⟩, rfl⟩
  obtain ⟨e, he⟩ : ∃ e : Fin 2048, e.val = (y 1).val := ⟨⟨_, (y 1).isLt⟩, rfl⟩
  obtain ⟨b, hb⟩ : ∃ b : Fin 2, t.val / 16 = b.val := ⟨⟨t.val / 16, by omega⟩, rfl⟩
  obtain ⟨n, hn⟩ : ∃ n : Fin 16, t.val % 16 = n.val := ⟨⟨t.val % 16, by omega⟩, rfl⟩
  have ey : y = ix2 r e := by
    blk_ext
  have em : (win0_11.blk t).view.emb y = ix2 (⟨t.val * 256 + r.val, by omega⟩ : Fin 8192) e := by
    blk_ext [ix_11 t]
  rw [em]
  refine Eq.trans (congrArg _ ey) ((o11_apply _ _ _ _ _ _ _ _ _ _ _ r e).trans ((bx_point m c t b n hb hn r e).trans ?_))
  unfold Gx Cert.Wo.arrX
  refine congrArg₂ (fun p q => x1 m c p q e) (Fin.ext ?_) (Fin.ext ?_)
  · show b.val = (t.val * 256 + r.val) / 4096
    omega
  · show n.val * 256 + r.val = (t.val * 256 + r.val) % 4096
    omega

/-- The modulated rows' array after the run. -/
theorem final12 : (dats m 0 c).arrAt 12 cfg0.N = Gh m c := by
  refine (dats m 0 c).arrAt_eq_of_covers 12 _ (by decide +kernel) fun t hf y => ?_
  blk_simp
  rw [after0_12]
  have hN : t.val < 32 := t.isLt
  obtain ⟨r, hr⟩ : ∃ r : Fin 256, r.val = (y 0).val := ⟨⟨_, (y 0).isLt⟩, rfl⟩
  obtain ⟨e, he⟩ : ∃ e : Fin 2048, e.val = (y 1).val := ⟨⟨_, (y 1).isLt⟩, rfl⟩
  obtain ⟨b, hb⟩ : ∃ b : Fin 2, t.val / 16 = b.val := ⟨⟨t.val / 16, by omega⟩, rfl⟩
  obtain ⟨n, hn⟩ : ∃ n : Fin 16, t.val % 16 = n.val := ⟨⟨t.val % 16, by omega⟩, rfl⟩
  have ey : y = ix2 r e := by
    blk_ext
  have em : (win0_12.blk t).view.emb y = ix2 (⟨t.val * 256 + r.val, by omega⟩ : Fin 8192) e := by
    blk_ext [ix_12 t]
  rw [em]
  refine Eq.trans (congrArg _ ey) ((o12_apply _ _ _ _ _ _ _ _ _ _ _ r e).trans ((bh_point m c t b n hb hn r e).trans ?_))
  unfold Gh Cert.Wo.arrH
  refine congrArg₂ (fun p q => h2 m c p q e) (Fin.ext ?_) (Fin.ext ?_)
  · show b.val = (t.val * 256 + r.val) / 4096
    omega
  · show n.val * 256 + r.val = (t.val * 256 + r.val) % 4096
    omega

/-- The scores' array after the run. -/
theorem final13 (hh : ∀ b t k, Cert.Wo.Real (h2 m c b t k)) (hw : ∀ k j, Cert.Wo.Real (wr m c k j)) :
    (dats m 0 c).arrAt 13 cfg0.N = Gl m c := by
  refine (dats m 0 c).arrAt_eq_of_covers 13 _ (by decide +kernel) fun t hf y => ?_
  blk_simp
  rw [after0_13]
  have hN : t.val < 32 := t.isLt
  obtain ⟨r, hr⟩ : ∃ r : Fin 256, r.val = (y 0).val := ⟨⟨_, (y 0).isLt⟩, rfl⟩
  obtain ⟨e, he⟩ : ∃ e : Fin 128, e.val = (y 1).val := ⟨⟨_, (y 1).isLt⟩, rfl⟩
  obtain ⟨b, hb⟩ : ∃ b : Fin 2, t.val / 16 = b.val := ⟨⟨t.val / 16, by omega⟩, rfl⟩
  obtain ⟨n, hn⟩ : ∃ n : Fin 16, t.val % 16 = n.val := ⟨⟨t.val % 16, by omega⟩, rfl⟩
  have ey : y = ix2 r e := by
    blk_ext
  have em : (win0_13.blk t).view.emb y = ix2 (⟨t.val * 256 + r.val, by omega⟩ : Fin 8192) e := by
    blk_ext [ix_13 t]
  rw [em]
  refine Eq.trans (congrArg _ ey) ((lg_point m c t b n hb hn hh hw r e).trans ?_)
  unfold Gl Cert.Wo.arrL
  refine congrArg₂ (fun p q => lg m c p q e) (Fin.ext ?_) (Fin.ext ?_)
  · show b.val = (t.val * 256 + r.val) / 4096
    omega
  · show n.val * 256 + r.val = (t.val * 256 + r.val) % 4096
    omega

end Cert.Kernel3Ideal.Wo
-- ==== Proof.WoRef.lean ====
/-
  The reference of the output projection at an index.
-/
module
public import proofs.«01_k».proof.Proof.WoSpec
public import proofs.«01_k».proof.Proof.Gen.Reference3Ideal.Run
public import Idealize.ShloMosaic.Lib.Pointwise
@[expose] public section
set_option maxRecDepth 16384
noncomputable section
namespace Cert.Reference3Ideal.Wo
open Idealize.ShloMosaic.Tactic Cert.Reference3Ideal Cert.Reference3Ideal.Gen Idealize.ShloMosaic Idealize.ShloMosaic.TcCoe Idealize.SL.Sem

/-! The reference in stages, each a function of the stages before it. -/

/-- The mixers' outputs side by side. -/
def oV (a b : FVec Ideal S2x4096x1024 .bf16) : FVec Ideal S2x4096x2048 .f32 :=
  concatenate S2x4096x2048 2 [⟨S2x4096x1024, (extf .f32 a bitsLt_bf16_f32)⟩, ⟨S2x4096x1024, (extf .f32 b bitsLt_bf16_f32)⟩] concatenates_S2x4096x1024_S2x4096x1024_S2x4096x2048_d2

/-- The residual rows. -/
def xV (x o : FVec Ideal S2x4096x2048 .f32) (w : FVec Ideal S2048x2048 .f32) (gt : FVec Ideal S2x2048 .f32) : FVec Ideal S2x4096x2048 .f32 :=
  addf x (mulf (broadcastInDim S2x4096x2048 ![0, 1, 2] bcast_S2x1x2048_S2x4096x2048_0_1_2 (broadcastInDim S2x1x2048 ![0, 2] bcast_S2x2048_S2x1x2048_0_2 gt)) (Host.dotGeneral dot_S2x4096x2048_S2048x2048_S2x4096x2048_2_0_01_1_n_n none o w))

/-- The rows' sums of squares. -/
def sqV (x : FVec Ideal S2x4096x2048 .f32) : FVec Ideal S2x4096 .f32 :=
  Host.reduceAdd (mulf x x) (constant S_ .f32 0x00000000#32) reducesTo_S2x4096x2048_S2x4096_d2 h_S_

/-- The modulated rows. -/
def hV (x : FVec Ideal S2x4096x2048 .f32) (R : FVec Ideal S2x4096 .f32) (g : FVec Ideal S2048 .f32) (sh sc : FVec Ideal S2x2048 .f32) :
    FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 R) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc)))) (broadcastInDim S2x4096x2048 ![0, 1, 2] bcast_S2x1x2048_S2x4096x2048_0_1_2 (broadcastInDim S2x1x2048 ![0, 2] bcast_S2x2048_S2x1x2048_0_2 sh))

/-- The sequences under one another. -/
def flat (x : FVec Ideal S2x4096x2048 .f32) : FVec Ideal S8192x2048 .f32 := shapeCast S8192x2048 x shapeCasts_S2x4096x2048_S8192x2048

/-- The router's scores. -/
def lV (h : FVec Ideal S8192x2048 .f32) (wg : FVec Ideal S2048x8 .f32) (bg : FVec Ideal S8 .f32) (we : FVec Ideal S2048x64 .f32)
    (be : FVec Ideal S64 .f32) : FVec Ideal S8192x128 .f32 :=
  pad S8192x128 ![0, 0] ![0, 56] ![0, 0] (concatenate S8192x72 1 [⟨S8192x8, (addf (Host.dotGeneral dot_S8192x2048_S2048x8_S8192x8_1_0_0_1_n_n none h wg) (broadcastInDim S8192x8 ![0, 1] bcast_S1x8_S8192x8_0_1 (broadcastInDim S1x8 ![1] bcast_S8_S1x8_1 bg)))⟩, ⟨S8192x64, (addf (Host.dotGeneral dot_S8192x2048_S2048x64_S8192x64_1_0_0_1_n_n none h we) (broadcastInDim S8192x64 ![0, 1] bcast_S1x64_S8192x64_0_1 (broadcastInDim S1x64 ![1] bcast_S64_S1x64_1 be)))⟩] concatenates_S8192x8_S8192x64_S8192x72_d1) (sitofp .f32 (constantI S_ 32 0#32)) pads_S8192x72_S8192x128_000_0560 h_S_

theorem red : Shape.Reduces S2x4096x2048 [2] S2x4096 := by decide

/-- A row's index with the column put back. -/
theorem lift_row (b : Fin 2) (t : Fin 4096) (k : Fin 2048) : red.lift (ix2 b t) k = ix3 b t k := by
  funext a
  match a with
  | 0 => rfl
  | 1 => rfl
  | 2 => rfl

/-- A row's sum of squares. -/
theorem sq_apply (x : FVec Ideal S2x4096x2048 .f32) (b : Fin 2) (t : Fin 4096) :
    sqV x (ix2 b t) = ∑ k : Fin 2048, x (ix3 b t k) * x (ix3 b t k) := by
  refine (Ideal.hostReduceAdd_single reducesTo_S2x4096x2048_S2x4096_d2 red (mulf x x) _ _).trans ?_
  refine (congrArg₂ (· + ·) (Ideal.ofBits_zero_f32)
    (Finset.sum_congr rfl fun k _ => congrArg (fun i => x i * x i) (lift_row b t k))).trans (zero_add _)

/-- A modulated row. -/
theorem h_apply (x : FVec Ideal S2x4096x2048 .f32) (g : FVec Ideal S2048 .f32) (sh sc : FVec Ideal S2x2048 .f32)
    (b : Fin 2) (t : Fin 4096) (k : Fin 2048) :
    hV x (sqV x) g sh sc (ix3 b t k) = Inp.norm (fun j => x (ix3 b t j)) (g (ix1 k)) (sc (ix2 b k)) (sh (ix2 b k)) k := by
  unfold Inp.norm
  rw [← sq_apply]
  pointwise [hV]

/-- A sum over both halves. -/
theorem halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The attention's half. -/
theorem o_left (a v : FVec Ideal S2x4096x1024 .bf16) (b : Fin 2) (t : Fin 4096) (k : Fin 1024) :
    oV a v (ix3 b t ⟨k.val, by omega⟩) = a (ix3 b t k) := by
  pointwise [oV]

/-- The recurrence's half. -/
theorem o_right (a v : FVec Ideal S2x4096x1024 .bf16) (b : Fin 2) (t : Fin 4096) (k : Fin 1024) :
    oV a v (ix3 b t ⟨1024 + k.val, by omega⟩) = v (ix3 b t k) := by
  pointwise [oV]

/-- A residual row. -/
theorem x_apply (a v : FVec Ideal S2x4096x1024 .bf16) (x : FVec Ideal S2x4096x2048 .f32) (w : FVec Ideal S2048x2048 .f32)
    (gt : FVec Ideal S2x2048 .f32) (b : Fin 2) (t : Fin 4096) (e : Fin 2048) :
    xV x (oV a v) w gt (ix3 b t e) = Cert.Wo.x1 a v x w gt b t e := by
  have h : ∀ o : FVec Ideal S2x4096x2048 .f32, xV x o w gt (ix3 b t e)
      = x (ix3 b t e) + gt (ix2 b e) * ∑ k : Fin 2048, o (ix3 b t k) * w (ix2 k e) := by
    intro o; pointwise [xV]
  rw [h, halves]
  unfold Cert.Wo.x1 Cert.Wo.mixed
  simp only [o_left, o_right]

/-- The integer zero converts to zero. -/
theorem cvt_zero : (FloatOps.sitofp FTy.f32 0#32 : Ideal .f32) = 0 := by
  show (((0#32 : BitVec 32).toInt : ℝ) : EReal) = 0
  simp

/-- A score. -/
theorem l_apply (h : FVec Ideal S8192x2048 .f32) (wg : FVec Ideal S2048x8 .f32) (bg : FVec Ideal S8 .f32) (we : FVec Ideal S2048x64 .f32)
    (be : FVec Ideal S64 .f32) (p : Fin 8192) (j : Fin 128) :
    lV h wg bg we be (ix2 p j) = if h1 : j.val < 72 then
        if h2 : j.val < 8 then (∑ k : Fin 2048, h (ix2 p k) * wg (ix2 k ⟨j.val, h2⟩)) + bg (ix1 ⟨j.val, h2⟩)
        else (∑ k : Fin 2048, h (ix2 p k) * we (ix2 k ⟨j.val - 8, by omega⟩)) + be (ix1 ⟨j.val - 8, by omega⟩)
      else 0 := by
  pointwise [lV]
  simp only [cvt_zero]

/-- The flattened rows at an index. -/
theorem flat_apply (x : FVec Ideal S2x4096x2048 .f32) (p : Fin 8192) (e : Fin 2048) :
    flat x (ix2 p e) = x (ix3 ⟨p.val / 4096, by omega⟩ ⟨p.val % 4096, by omega⟩ e) := by
  pointwise [flat]

section
variable (m : (ℓ : Loc nD τ sig) → Buf (Elt Ideal) ℓ) (c : Dev nD)

/-- The attention's output. -/
abbrev a0 : FVec Ideal S2x4096x1024 .bf16 := m ((c.tc : Thread nD τ).loc main_arg0)
/-- The recurrence's output. -/
abbrev a1 : FVec Ideal S2x4096x1024 .bf16 := m ((c.tc : Thread nD τ).loc main_arg1)
/-- The rows. -/
abbrev a2 : FVec Ideal S2x4096x2048 .f32 := m ((c.tc : Thread nD τ).loc main_arg2)
/-- The weights. -/
abbrev a3 : FVec Ideal S2048x2048 .f32 := m ((c.tc : Thread nD τ).loc main_arg3)
/-- The gates. -/
abbrev a4 : FVec Ideal S2x2048 .f32 := m ((c.tc : Thread nD τ).loc main_arg4)
/-- The gains. -/
abbrev a5 : FVec Ideal S2048 .f32 := m ((c.tc : Thread nD τ).loc main_arg5)
/-- The shifts. -/
abbrev a6 : FVec Ideal S2x2048 .f32 := m ((c.tc : Thread nD τ).loc main_arg6)
/-- The scales. -/
abbrev a7 : FVec Ideal S2x2048 .f32 := m ((c.tc : Thread nD τ).loc main_arg7)
/-- The groups' weights. -/
abbrev a8 : FVec Ideal S2048x8 .f32 := m ((c.tc : Thread nD τ).loc main_arg8)
/-- The groups' biases. -/
abbrev a9 : FVec Ideal S8 .f32 := m ((c.tc : Thread nD τ).loc main_arg9)
/-- The experts' weights. -/
abbrev a10 : FVec Ideal S2048x64 .f32 := m ((c.tc : Thread nD τ).loc main_arg10)
/-- The experts' biases. -/
abbrev a11 : FVec Ideal S64 .f32 := m ((c.tc : Thread nD τ).loc main_arg11)

/-- The residual rows of the arguments. -/
def XV : FVec Ideal S2x4096x2048 .f32 := xV (a2 m c) (oV (a0 m c) (a1 m c)) (a3 m c) (a4 m c)

/-- The modulated rows of the arguments. -/
def HV : FVec Ideal S2x4096x2048 .f32 := hV (XV m c) (sqV (XV m c)) (a5 m c) (a6 m c) (a7 m c)

/-- The scores are the stages'. -/
theorem res2_eq : (Value.res_out2 m c : FVec Ideal S8192x128 .f32) = lV (flat (HV m c)) (a8 m c) (a9 m c) (a10 m c) (a11 m c) := rfl

/-- The residual rows of the arguments at an index. -/
theorem XV_apply (b : Fin 2) (t : Fin 4096) (e : Fin 2048) :
    XV m c (ix3 b t e) = Cert.Wo.x1 (a0 m c) (a1 m c) (a2 m c) (a3 m c) (a4 m c) b t e := x_apply _ _ _ _ _ b t e

/-- The modulated rows of the arguments at an index. -/
theorem HV_apply (b : Fin 2) (t : Fin 4096) (k : Fin 2048) :
    HV m c (ix3 b t k) = Cert.Wo.h2 (a0 m c) (a1 m c) (a2 m c) (a3 m c) (a4 m c) (a5 m c) (a6 m c) (a7 m c) b t k := by
  refine (h_apply _ _ _ _ b t k).trans ?_
  unfold Cert.Wo.h2
  exact congrArg (fun v => Inp.norm v _ _ _ k) (funext fun e => XV_apply m c b t e)

/-- The reference's first array. -/
theorem arr0 : flat (XV m c) = Cert.Wo.arrX (a0 m c) (a1 m c) (a2 m c) (a3 m c) (a4 m c) := by
  funext i
  obtain ⟨p, e, rfl⟩ := Inp.two i
  exact (flat_apply _ p e).trans (XV_apply m c _ _ e)

/-- The reference's modulated rows, flattened. -/
theorem arr1 : flat (HV m c) = Cert.Wo.arrH (a0 m c) (a1 m c) (a2 m c) (a3 m c) (a4 m c) (a5 m c) (a6 m c) (a7 m c) := by
  funext i
  obtain ⟨p, e, rfl⟩ := Inp.two i
  exact (flat_apply _ p e).trans (HV_apply m c _ _ e)

/-- The reference's third array. -/
theorem arr2 : (Value.res_out2 m c : FVec Ideal S8192x128 .f32)
    = Cert.Wo.arrL (a0 m c) (a1 m c) (a2 m c) (a3 m c) (a4 m c) (a5 m c) (a6 m c) (a7 m c) (a8 m c) (a9 m c) (a10 m c) (a11 m c) := by
  funext i
  obtain ⟨p, j, rfl⟩ := Inp.two i
  rw [res2_eq, l_apply]
  simp only [flat_apply, HV_apply]
  show _ = Cert.Wo.lg (a0 m c) (a1 m c) (a2 m c) (a3 m c) (a4 m c) (a5 m c) (a6 m c) (a7 m c) (a8 m c) (a9 m c) (a10 m c) (a11 m c)
    ⟨p.val / 4096, by omega⟩ ⟨p.val % 4096, by omega⟩ j
  by_cases h : j.val < 72
  · rw [dif_pos h]
    unfold Cert.Wo.lg Cert.Wo.wr Cert.Wo.br
    by_cases h' : j.val < 8
    · simp only [dif_pos h']
    · simp only [dif_neg h', dif_pos h]
  · rw [dif_neg h, Cert.Wo.lg_pad _ _ _ _ _ _ _ _ _ _ _ _ _ _ _ (by omega)]

/-- The run: the three arrays at their values, and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v39) = Cert.Wo.arrX (a0 m c) (a1 m c) (a2 m c) (a3 m c) (a4 m c)
      ∧ r.2.mem ((c.tc : Thread nD τ).loc main_v40)
          = Cert.Wo.arrH (a0 m c) (a1 m c) (a2 m c) (a3 m c) (a4 m c) (a5 m c) (a6 m c) (a7 m c)
      ∧ r.2.mem ((c.tc : Thread nD τ).loc main_v41)
          = Cert.Wo.arrL (a0 m c) (a1 m c) (a2 m c) (a3 m c) (a4 m c) (a5 m c) (a6 m c) (a7 m c) (a8 m c) (a9 m c) (a10 m c) (a11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (arr0 m c), (h c).2.1.trans (arr1 m c), (h c).2.2.1.trans (arr2 m c), (h c).2.2.2⟩)
    (Value.run (F := Ideal) m ρ)
end

end Cert.Reference3Ideal.Wo
-- ==== Proof.Out.lean ====
/-
  What one grid point of the attention call leaves in its output block: the concatenation of sixteen heads, each the
  same function of the point's query, key and value blocks and the head's sink.
-/
module
public import proofs.«01_k».proof.Proof.Gen.KernelIdeal.Value
@[expose] public section
set_option maxRecDepth 16384
noncomputable section
namespace Cert.KernelIdeal.Att
open Idealize.ShloMosaic.Tactic Cert.KernelIdeal Cert.KernelIdeal.Gen Idealize.ShloMosaic Idealize.ShloMosaic.TcCoe Idealize.SL.Sem

/-- The three zero offsets of a store through a whole block. -/
theorem hz3 : (![0, 0, 0] : Fin 3 → Nat) = fun _ => 0 := funext fun a => by fin_cases a <;> rfl

/-- A load off a whole staging buffer that holds `x` reads `x` through the load's rectangle. -/
theorem readAt_unread {sp : Space} {s : Shape} {e : EltTy} (a : Memref sig .tc sp s e) (h : a.IsWhole) (x : Vec Ideal s e)
    (r : Rect s) : View.readAt (Elt Ideal) a.view r.toLoadRect (h.unread x) = View.ld x r := by
  show View.ld (a.view.read (Elt Ideal) (h.unread x)) r = _
  rw [h.read_unread]

/-- The columns of head `h` lie inside the query block. -/
theorem q_in (h : Fin 16) : ∀ a, (![0, 0, 64 * h.val] : Fin 3 → Nat) a + S1x128x64.size a ≤ S1x128x1024.size a := by
  intro a
  have := h.isLt
  match a with
  | ⟨0, _⟩ => exact Nat.le_refl 1
  | ⟨1, _⟩ => exact Nat.le_refl 128
  | ⟨2, _⟩ => show 64 * h.val + 64 ≤ 1024; omega

/-- The columns of the key and value head that head `h` shares lie inside the key block. -/
theorem kv_in (h : Fin 16) : ∀ a, (![0, 0, 64 * (h.val / 8)] : Fin 3 → Nat) a + S1x128x64.size a ≤ S1x128x128.size a := by
  intro a
  have := h.isLt
  match a with
  | ⟨0, _⟩ => exact Nat.le_refl 1
  | ⟨1, _⟩ => exact Nat.le_refl 128
  | ⟨2, _⟩ => show 64 * (h.val / 8) + 64 ≤ 128; omega

/-- Head `h`'s sink is an entry of the sinks. -/
theorem s_in (h : Fin 16) : ∀ a, (![h.val] : Fin 1 → Nat) a + S1.size a ≤ S16.size a := by
  intro a
  have := h.isLt
  match a with
  | ⟨0, _⟩ => show h.val + 1 ≤ 16; omega

/-- Head `h` at the point: scores, masked softmax with the head's sink, and the weighted values, of the point's blocks
    (sinks, queries, current and previous keys, current and previous values). -/
def hd (i : grid0.Coords) (x0 : Vec Ideal S16 .f32) (x1 : Vec Ideal S1x128x1024 .bf16) (x2 x3 x4 x5 : Vec Ideal S1x128x128 .bf16)
    (h : Fin 16) : FVec Ideal S128x64 .f32 :=
  k0_pay12 (k0_pay3 i)
    (k0_pay4 (View.ld x3 (Rect.unit (s := S1x128x128) ![0, 0, 64 * (h.val / 8)] S1x128x64.size (kv_in h)))
      (View.ld x2 (Rect.unit (s := S1x128x128) ![0, 0, 64 * (h.val / 8)] S1x128x64.size (kv_in h))))
    (k0_pay5 (View.ld x5 (Rect.unit (s := S1x128x128) ![0, 0, 64 * (h.val / 8)] S1x128x64.size (kv_in h)))
      (View.ld x4 (Rect.unit (s := S1x128x128) ![0, 0, 64 * (h.val / 8)] S1x128x64.size (kv_in h))))
    (View.ld x1 (Rect.unit (s := S1x128x1024) ![0, 0, 64 * h.val] S1x128x64.size (q_in h)))
    (View.ld x0 (Rect.unit (s := S16) ![h.val] S1.size (s_in h)) (Shape.Idx.first (numel1_S1.symm ▸ Nat.one_pos : 0 < S1.numel)))

/-- The point's output block is the sixteen heads side by side. -/
theorem out_eq (c : Dev nD) (i : grid0.Coords) (arg2 : Memref sig .tc .smem S16 .f32) (harg2 : arg2.IsWhole) (arg3 : Memref sig .tc .vmem S1x128x1024 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x128x1024 .bf16) (harg8 : arg8.IsWhole)
    (x0 : Vec Ideal S16 .f32) (x1 : Vec Ideal S1x128x1024 .bf16) (x2 x3 x4 x5 : Vec Ideal S1x128x128 .bf16) :
    out0_A_6 (F := Ideal) c i arg2 harg2 arg3 harg3 arg4 harg4 arg5 harg5 arg6 harg6 arg7 harg7 arg8 harg8 x0 x1 x2 x3 x4 x5
      = let H := hd i x0 x1 x2 x3 x4 x5
        k0_pay2 (H 0) (H 1) (H 2) (H 3) (H 4) (H 5) (H 6) (H 7) (H 8) (H 9) (H 10) (H 11) (H 12) (H 13) (H 14) (H 15) := by
  unfold out0_A_6
  rw [View.read_writes_eq_canon _ _ _ (cover0_A_6 _ _ _ _ _ _ _ _ _ _ _ _ _ _ _ _ _ _ _ _ _ _)]
  unfold kernelRun0_A
  dsimp only
  sl_unfold_words
  refine (View.canon_unit_zero hz3 _ _).trans ?_
  simp only [readAt_unread]
  rfl

end Cert.KernelIdeal.Att
-- ==== Proof.Spec.lean ====
/-
  The attention both programs compute, as functions of the array of queries, keys and values and of the sinks.
-/
module
public import proofs.«01_k».proof.Proof.Soft
public import Idealize.ShloMosaic.Lib.Pointwise
@[expose] public section
noncomputable section
namespace Cert.Att
open Idealize.ShloMosaic

/-- Key `j` of block `n`'s 256 (the previous block's 128 rows in front) is seen by the block's query `r`. -/
def Vis (n : Fin 32) (r : Fin 128) (j : Fin 256) : Prop :=
  (j.val < 128 ∧ r.val < j.val ∧ 0 < n.val) ∨ (128 ≤ j.val ∧ j.val - 128 ≤ r.val)

instance (n : Fin 32) (r : Fin 128) (j : Fin 256) : Decidable (Vis n r j) := by unfold Vis; infer_instance

/-- Column `col` of the row key `j` of block `n` lies in (zero before the sequence). -/
def row (x : (⟨3, ![2, 4096, 1280]⟩ : Shape).Idx → EReal) (b : Fin 2) (n : Fin 32) (j : Fin 256) (col : Fin 1280) : EReal :=
  if h : 128 ≤ n.val * 128 + j.val then x (ix3 b ⟨n.val * 128 + j.val - 128, by omega⟩ col) else 0

/-- The score of key `j` for query `r` of block `n`, batch row `b`, query head `8 h + g`: `⊥` where the key is not seen. -/
def score (x : (⟨3, ![2, 4096, 1280]⟩ : Shape).Idx → EReal) (b : Fin 2) (n : Fin 32) (h : Fin 2) (g : Fin 8) (r : Fin 128)
    (j : Fin 256) : EReal :=
  if Vis n r j then (∑ d : Fin 64, row x b n j ⟨1024 + (h.val * 64 + d.val), by omega⟩
      * x (ix3 b ⟨n.val * 128 + r.val, by omega⟩ ⟨h.val * 512 + g.val * 64 + d.val, by omega⟩)) * Ideal.ofBits .f32 1040187392#32
    else ⊥

/-- The sink of query head `8 h + g`. -/
def sink (s : (⟨1, ![16]⟩ : Shape).Idx → EReal) (h : Fin 2) (g : Fin 8) : EReal := s (ix1 ⟨h.val * 8 + g.val, by omega⟩)

/-- Column `d` of the attention's result for query `r` of block `n`. -/
def att (x : (⟨3, ![2, 4096, 1280]⟩ : Shape).Idx → EReal) (s : (⟨1, ![16]⟩ : Shape).Idx → EReal) (b : Fin 2) (n : Fin 32)
    (r : Fin 128) (h : Fin 2) (g : Fin 8) (d : Fin 64) : EReal :=
  ∑ j : Fin 256, row x b n j ⟨1152 + (h.val * 64 + d.val), by omega⟩
    * Ideal.div (Ideal.exp (score x b n h g r j - top (score x b n h g r) (sink s h g))) (den (score x b n h g r) (sink s h g))

end Cert.Att
-- ==== Proof.Mask.lean ====
/-
  The masks' comparisons of small words, decided.
-/
module
public import Idealize.ShloMosaic.PureOps
@[expose] public section
namespace Cert.Att
open Idealize.ShloMosaic

/-- The band of keys at most 127 rows back. -/
theorem band : ∀ (r : Fin 128) (j : Fin 256), IntOp.andi
    (IntOp.cmpi .sge (IntOp.subi (BitVec.ofNat 32 r.val) (IntOp.subi (BitVec.ofNat 32 j.val) 128#32)) 0#32)
    (IntOp.cmpi .slt (IntOp.subi (BitVec.ofNat 32 r.val) (IntOp.subi (BitVec.ofNat 32 j.val) 128#32)) 128#32)
      = if r.val < j.val ∧ j.val ≤ r.val + 128 then 1#1 else 0#1 := by decide +kernel

/-- The keys not before the sequence. -/
theorem inseq : ∀ (n : Fin 32) (j : Fin 256), IntOp.cmpi .sge
    (IntOp.addi (IntOp.muli (BitVec.ofNat 32 n.val) 128#32) (IntOp.subi (BitVec.ofNat 32 j.val) 128#32)) 0#32
      = if 128 ≤ n.val * 128 + j.val then 1#1 else 0#1 := by decide +kernel

/-- "Greater" on small words. -/
theorem sgt128 : ∀ a b : Fin 128, IntOp.cmpi .sgt (BitVec.ofNat 32 a.val) (BitVec.ofNat 32 b.val)
    = if b.val < a.val then 1#1 else 0#1 := by decide +kernel

/-- "At most" on small words. -/
theorem sle128 : ∀ a b : Fin 128, IntOp.cmpi .sle (BitVec.ofNat 32 a.val) (BitVec.ofNat 32 b.val)
    = if a.val ≤ b.val then 1#1 else 0#1 := by decide +kernel

/-- "Positive" on a block's number. -/
theorem spos : ∀ n : Fin 32, IntOp.cmpi .sgt (BitVec.ofNat 32 n.val) 0#32
    = if 0 < n.val then 1#1 else 0#1 := by decide +kernel

end Cert.Att
-- ==== Proof.Head.lean ====
/-
  One head of one grid point, at an index.
-/
module
public import proofs.«01_k».proof.Proof.Out
public import proofs.«01_k».proof.Proof.Spec
public import proofs.«01_k».proof.Proof.Mask
@[expose] public section
set_option maxRecDepth 16384
noncomputable section
namespace Cert.KernelIdeal.Att
open Idealize.ShloMosaic.Tactic Cert.KernelIdeal Cert.KernelIdeal.Gen Idealize.ShloMosaic Idealize.ShloMosaic.TcCoe Idealize.SL.Sem

/-- The point's block of 128 rows. -/
def blkOf (i : grid0.Coords) : Fin 32 := ⟨(i 1).val, (i 1).isLt⟩

/-- The kernel's mask at an index. -/
theorem mask_apply (i : grid0.Coords) (r : Fin 128) (j : Fin 256) :
    k0_pay3 i (ix2 r j) = if Att.Vis (blkOf i) r j then 1#1 else 0#1 := by
  pointwise [k0_pay3]
  show (if _ : j.val < 128 then IntOp.andi (IntOp.cmpi .sgt (BitVec.ofNat 32 j.val) (BitVec.ofNat 32 r.val))
        (IntOp.cmpi .sgt (BitVec.ofNat 32 (blkOf i).val) 0#32)
      else IntOp.cmpi .sle (BitVec.ofNat 32 (j.val - 128)) (BitVec.ofNat 32 r.val)) = _
  by_cases hj : j.val < 128
  · have e1 := Att.sgt128 ⟨j.val, hj⟩ r
    dsimp only at e1
    rw [dif_pos hj, e1, Att.spos]
    by_cases hv : Att.Vis (blkOf i) r j
    · rw [if_pos hv]
      unfold Att.Vis at hv
      rw [if_pos (by omega), if_pos (by omega)]
      rfl
    · rw [if_neg hv]
      unfold Att.Vis at hv
      split_ifs <;> first | omega | rfl
  · have e1 := Att.sle128 ⟨j.val - 128, by omega⟩ r
    dsimp only at e1
    rw [dif_neg hj, e1]
    by_cases hv : Att.Vis (blkOf i) r j
    · rw [if_pos hv]
      unfold Att.Vis at hv
      rw [if_pos (by omega)]
    · rw [if_neg hv]
      unfold Att.Vis at hv
      rw [if_neg (by omega)]

/-- Column `d` of key `j` of the two blocks `p` (previous) and `q` (current). -/
def two (p q : Vec Ideal S1x128x128 .bf16) (j : Fin 256) (e : Fin 128) : EReal :=
  if hj : j.val < 128 then p (ix3 0 ⟨j.val, hj⟩ e) else q (ix3 0 ⟨j.val - 128, by omega⟩ e)

/-- The score of key `j` for row `r` of head `h` at the point. -/
def S (i : grid0.Coords) (x1 : Vec Ideal S1x128x1024 .bf16) (x2 x3 : Vec Ideal S1x128x128 .bf16) (h : Fin 16) (r : Fin 128)
    (j : Fin 256) : EReal :=
  if Att.Vis (blkOf i) r j then (∑ d : Fin 64, two x3 x2 j ⟨64 * (h.val / 8) + d.val, by omega⟩
    * x1 (ix3 0 r ⟨64 * h.val + d.val, by omega⟩)) * Ideal.ofBits .f32 1040187392#32 else ⊥

/-- The two key blocks' 64 columns of head `h`, one under the other. -/
theorem keys_apply (x2 x3 : Vec Ideal S1x128x128 .bf16) (h : Fin 16) (j : Fin 256) (d : Fin 64) :
    k0_pay4 (View.ld x3 (Rect.unit (s := S1x128x128) ![0, 0, 64 * (h.val / 8)] S1x128x64.size (kv_in h)))
      (View.ld x2 (Rect.unit (s := S1x128x128) ![0, 0, 64 * (h.val / 8)] S1x128x64.size (kv_in h))) (ix2 j d)
      = two x3 x2 j ⟨64 * (h.val / 8) + d.val, by omega⟩ := by
  pointwise [k0_pay4]
  rfl

/-- The two value blocks', likewise. -/
theorem vals_apply (x4 x5 : Vec Ideal S1x128x128 .bf16) (h : Fin 16) (j : Fin 256) (d : Fin 64) :
    k0_pay5 (View.ld x5 (Rect.unit (s := S1x128x128) ![0, 0, 64 * (h.val / 8)] S1x128x64.size (kv_in h)))
      (View.ld x4 (Rect.unit (s := S1x128x128) ![0, 0, 64 * (h.val / 8)] S1x128x64.size (kv_in h))) (ix2 j d)
      = two x5 x4 j ⟨64 * (h.val / 8) + d.val, by omega⟩ := by
  pointwise [k0_pay5]
  rfl

/-- The word of minus infinity reads as `⊥`. -/
theorem ofBits_neg_inf : Ideal.ofBits .f32 4286578688#32 = ⊥ := by simp [Ideal.ofBits, Ideal.ieee]

/-- A head from any mask, keys, values, queries and sink. -/
theorem pay12_apply (mk : IVec S128x256 1) (K V : FVec Ideal S256x64 .f32) (q : FVec Ideal S1x128x64 .bf16) (sk : EReal)
    (T : Fin 256 → EReal) (r : Fin 128) (d : Fin 64)
    (hT : ∀ j, T j = Scalar.select (mk (ix2 r j)) ((∑ e : Fin 64, q (ix3 0 r e) * K (ix2 j e)) * Ideal.ofBits .f32 1040187392#32)
      (Named.named κ "mask" (4048155338#32 : BitVec 32) : Ideal .f32)) :
    k0_pay12 (F := Ideal) mk K V q sk (ix2 r d)
      = Ideal.div (∑ j : Fin 256, Ideal.exp (T j - Att.top T sk) * V (ix2 j d)) (Att.den T sk) := by
  pointwise [k0_pay12]
  simp only [← hT, ofBits_neg_inf]
  rfl

/-- The named mask constant is `⊥`. -/
theorem mask_const : (Named.named κ "mask" (4048155338#32 : BitVec 32) : Ideal .f32) = ⊥ := rfl

/-- Head `h` at an index: the divided sum of the weighted values. -/
theorem hd_apply (i : grid0.Coords) (x0 : Vec Ideal S16 .f32) (x1 : Vec Ideal S1x128x1024 .bf16) (x2 x3 x4 x5 : Vec Ideal S1x128x128 .bf16)
    (h : Fin 16) (r : Fin 128) (d : Fin 64) :
    hd i x0 x1 x2 x3 x4 x5 h (ix2 r d)
      = Ideal.div (∑ j : Fin 256, Ideal.exp (S i x1 x2 x3 h r j - Att.top (S i x1 x2 x3 h r) (x0 (ix1 h)))
            * two x5 x4 j ⟨64 * (h.val / 8) + d.val, by omega⟩)
          (Att.den (S i x1 x2 x3 h r) (x0 (ix1 h))) := by
  unfold hd
  refine (pay12_apply _ _ _ _ _ (S i x1 x2 x3 h r) r d fun j => ?_).trans ?_
  · rw [mask_apply, mask_const]
    unfold S
    simp only [keys_apply]
    have e : (∑ d : Fin 64, two x3 x2 j ⟨64 * (h.val / 8) + d.val, by omega⟩ * x1 (ix3 0 r ⟨64 * h.val + d.val, by omega⟩))
        = ∑ e : Fin 64, View.ld x1 (Rect.unit (s := S1x128x1024) ![0, 0, 64 * h.val] S1x128x64.size (q_in h)) (ix3 0 r e)
            * two x3 x2 j ⟨64 * (h.val / 8) + e.val, by omega⟩ := by
      refine Finset.sum_congr rfl fun d _ => ?_
      rw [mul_comm]
      pointwise
    rw [← e]
    by_cases hv : Att.Vis (blkOf i) r j
    · rw [if_pos hv, if_pos hv]; rfl
    · rw [if_neg hv, if_neg hv]; rfl
  · simp only [vals_apply]
    pointwise

end Cert.KernelIdeal.Att
-- ==== Proof.Blocks.lean ====
/-
  The blocks of the attention call: what each point reads of the arrays and writes back.
-/
module
public import proofs.«01_k».proof.Proof.Head
public import Idealize.ShloMosaic.Lib.Pipeline.ValueKit
@[expose] public section
set_option maxRecDepth 16384
noncomputable section
namespace Cert.KernelIdeal.Att
open Idealize.ShloMosaic.Tactic Cert.KernelIdeal Cert.KernelIdeal.Gen Idealize.ShloMosaic Idealize.ShloMosaic.TcCoe Idealize.SL.Sem

variable (m : (ℓ : Loc nD τ sig) → Buf (Elt Ideal) ℓ)

/-- The array of queries, keys and values. -/
abbrev zin (c : Dev nD) : Buf (Elt Ideal) ((c.tc : Thread nD τ).loc main_arg0) := m ((c.tc : Thread nD τ).loc main_arg0)

/-- The coordinates of a point: batch row and block. -/
theorem co : ∀ t : Fin grid0.N, (grid0.coords t 0).val = t.val / 32 ∧ (grid0.coords t 1).val = t.val % 32 := by decide +kernel

/-! The block indices of the windows. -/

theorem ix_0 : ∀ t : Fin grid0.N, win0_0.index t = ![0] := by decide +kernel
theorem ix_2 : ∀ t : Fin grid0.N, win0_2.index t = ![t.val / 32, t.val % 32, 8] := by decide +kernel
theorem ix_3 : ∀ t : Fin grid0.N, win0_3.index t = ![t.val / 32, t.val % 32 - 1, 8] := by decide +kernel
theorem ix_4 : ∀ t : Fin grid0.N, win0_4.index t = ![t.val / 32, t.val % 32, 9] := by decide +kernel
theorem ix_5 : ∀ t : Fin grid0.N, win0_5.index t = ![t.val / 32, t.val % 32 - 1, 9] := by decide +kernel
theorem ix_1 : ∀ t : Fin grid0.N, win0_1.index t = ![t.val / 32, t.val % 32, 0] := by decide +kernel
theorem ix_6 : ∀ t : Fin grid0.N, win0_6.index t = ![t.val / 32, t.val % 32, 0] := by decide +kernel

/-- The current keys' block. -/
theorem rd_2 (c : Dev nD) (t : Fin cfg0.N) (r : Fin 128) (e : Fin 128) (b : Fin 2) (n : Fin 32) (hb : t.val / 32 = b.val) (hn : t.val % 32 = n.val) :
    iblk m c 2 t (ix3 0 r e) = zin m c (ix3 b ⟨n.val * 128 + r.val, by omega⟩ ⟨1024 + e.val, by omega⟩) := by
  blk_ext [iblk, V_main_arg0, ix_2 t]

/-- The previous keys' block (the first block's own before the first). -/
theorem rd_3 (c : Dev nD) (t : Fin cfg0.N) (r : Fin 128) (e : Fin 128) (b : Fin 2) (n : Fin 32) (hb : t.val / 32 = b.val) (hn : t.val % 32 = n.val) :
    iblk m c 3 t (ix3 0 r e) = zin m c (ix3 b ⟨(n.val - 1) * 128 + r.val, by omega⟩ ⟨1024 + e.val, by omega⟩) := by
  blk_ext [iblk, V_main_arg0, ix_3 t]

/-- The current values' block. -/
theorem rd_4 (c : Dev nD) (t : Fin cfg0.N) (r : Fin 128) (e : Fin 128) (b : Fin 2) (n : Fin 32) (hb : t.val / 32 = b.val) (hn : t.val % 32 = n.val) :
    iblk m c 4 t (ix3 0 r e) = zin m c (ix3 b ⟨n.val * 128 + r.val, by omega⟩ ⟨1152 + e.val, by omega⟩) := by
  blk_ext [iblk, V_main_arg0, ix_4 t]

/-- The previous values' block. -/
theorem rd_5 (c : Dev nD) (t : Fin cfg0.N) (r : Fin 128) (e : Fin 128) (b : Fin 2) (n : Fin 32) (hb : t.val / 32 = b.val) (hn : t.val % 32 = n.val) :
    iblk m c 5 t (ix3 0 r e) = zin m c (ix3 b ⟨(n.val - 1) * 128 + r.val, by omega⟩ ⟨1152 + e.val, by omega⟩) := by
  blk_ext [iblk, V_main_arg0, ix_5 t]

/-- The queries' block, staged whole. -/
theorem rd_1 (c : Dev nD) (t : Fin cfg0.N) (r : Fin 128) (e : Fin 1024) (b : Fin 2) (n : Fin 32) (hb : t.val / 32 = b.val) (hn : t.val % 32 = n.val) :
    X0_1 m c t (ix3 0 r e) = zin m c (ix3 b ⟨n.val * 128 + r.val, by omega⟩ ⟨e.val, by omega⟩) := by
  unfold X0_1 Pipeline.Window.fill
  rw [dif_pos (moved0_1 t _)]
  blk_ext [iblk, V_main_arg0, ix_1 t]

/-- The sinks, staged whole. -/
theorem rd_0 (c : Dev nD) (t : Fin cfg0.N) (h : Fin 16) :
    iblk m c 0 t (ix1 h) = m ((c.tc : Thread nD τ).loc main_arg1) (ix1 h) := by
  blk_ext [iblk, V_main_arg1, ix_0 t]

/-- Sixteen heads of 64 columns side by side, at an index. -/
theorem pay2_apply (H : Fin 16 → FVec Ideal S128x64 .f32) (r : Fin 128) (e : Fin 1024) :
    k0_pay2 (F := Ideal) (H 0) (H 1) (H 2) (H 3) (H 4) (H 5) (H 6) (H 7) (H 8) (H 9) (H 10) (H 11) (H 12) (H 13) (H 14) (H 15) (ix3 0 r e)
      = H ⟨e / 64, by omega⟩ (ix2 r ⟨e % 64, by omega⟩) := by
  have cast : ∀ X : FVec Ideal S128x1024 .f32,
      shapeCast S1x128x1024 (truncf .bf16 X bitsLt_bf16_f32) shapeCasts_S128x1024_S1x128x1024 (ix3 0 r e) = X (ix2 r e) := by
    intro X; pointwise
  unfold k0_pay2
  refine (cast _).trans ?_
  exact concatenate_ofFn_apply (s₁ := S128x64) 1 H
    (concatenates_S128x64_S128x64_S128x64_S128x64_S128x64_S128x64_S128x64_S128x64_S128x64_S128x64_S128x64_S128x64_S128x64_S128x64_S128x64_S128x64_S128x1024_d1)
    rfl 64 rfl (ix2 r e) ⟨e / 64, by omega⟩ rfl (ix2 r ⟨e % 64, by omega⟩) rfl
    (fun b hb => by
      match b with
      | ⟨0, _⟩ => rfl
      | ⟨1, _⟩ => exact absurd rfl hb)

end Cert.KernelIdeal.Att
-- ==== Proof.Final.lean ====
/-
  The attention call's result array after the run: the shared attention, where queries, keys and sinks are finite.
-/
module
public import proofs.«01_k».proof.Proof.Blocks
public import proofs.«01_k».proof.Defs
@[expose] public section
set_option maxRecDepth 16384
noncomputable section
namespace Cert.KernelIdeal.Att
open Idealize.ShloMosaic.Tactic Cert.KernelIdeal Cert.KernelIdeal.Gen Idealize.ShloMosaic Idealize.ShloMosaic.TcCoe Idealize.SL.Sem

variable (m : (ℓ : Loc nD τ sig) → Buf (Elt Ideal) ℓ)

/-- The sinks. -/
abbrev snk (c : Dev nD) : Buf (Elt Ideal) ((c.tc : Thread nD τ).loc main_arg1) := m ((c.tc : Thread nD τ).loc main_arg1)

/-- A seen key's columns, off the two staged key blocks. -/
theorem two_keys (c : Dev nD) (t : Fin cfg0.N) (b : Fin 2) (n : Fin 32) (hb : t.val / 32 = b.val) (hn : t.val % 32 = n.val)
    (r : Fin 128) (j : Fin 256) (hv : Att.Vis n r j) (e : Fin 128) :
    two (iblk m c 3 t) (iblk m c 2 t) j e = Att.row (zin m c) b n j ⟨1024 + e.val, by omega⟩ := by
  unfold Att.Vis at hv
  have hr : 128 ≤ n.val * 128 + j.val := by omega
  unfold two Att.row
  rw [dif_pos hr]
  by_cases hj : j.val < 128
  · rw [dif_pos hj]
    refine (rd_3 m c t ⟨j.val, hj⟩ e b n hb hn).trans (congrArg (fun p => zin m c (ix3 b p _)) (Fin.ext ?_))
    show (n.val - 1) * 128 + j.val = n.val * 128 + j.val - 128
    omega
  · rw [dif_neg hj]
    refine (rd_2 m c t ⟨j.val - 128, by omega⟩ e b n hb hn).trans (congrArg (fun p => zin m c (ix3 b p _)) (Fin.ext ?_))
    show n.val * 128 + (j.val - 128) = n.val * 128 + j.val - 128
    omega

/-- A seen key's value columns, off the two staged value blocks. -/
theorem two_vals (c : Dev nD) (t : Fin cfg0.N) (b : Fin 2) (n : Fin 32) (hb : t.val / 32 = b.val) (hn : t.val % 32 = n.val)
    (r : Fin 128) (j : Fin 256) (hv : Att.Vis n r j) (e : Fin 128) :
    two (iblk m c 5 t) (iblk m c 4 t) j e = Att.row (zin m c) b n j ⟨1152 + e.val, by omega⟩ := by
  unfold Att.Vis at hv
  have hr : 128 ≤ n.val * 128 + j.val := by omega
  unfold two Att.row
  rw [dif_pos hr]
  by_cases hj : j.val < 128
  · rw [dif_pos hj]
    refine (rd_5 m c t ⟨j.val, hj⟩ e b n hb hn).trans (congrArg (fun p => zin m c (ix3 b p _)) (Fin.ext ?_))
    show (n.val - 1) * 128 + j.val = n.val * 128 + j.val - 128
    omega
  · rw [dif_neg hj]
    refine (rd_4 m c t ⟨j.val - 128, by omega⟩ e b n hb hn).trans (congrArg (fun p => zin m c (ix3 b p _)) (Fin.ext ?_))
    show n.val * 128 + (j.val - 128) = n.val * 128 + j.val - 128
    omega

/-- The point's block number. -/
theorem blk_eq (t : Fin cfg0.N) (n : Fin 32) (hn : t.val % 32 = n.val) : blkOf (grid0.coords t) = n :=
  Fin.ext ((co t).2.trans hn)

/-- The point's scores are the shared ones. -/
theorem S_eq (c : Dev nD) (t : Fin cfg0.N) (b : Fin 2) (n : Fin 32) (hb : t.val / 32 = b.val) (hn : t.val % 32 = n.val)
    (q : Fin 16) (r : Fin 128) (j : Fin 256) :
    S (grid0.coords t) (X0_1 m c t) (iblk m c 2 t) (iblk m c 3 t) q r j
      = Att.score (zin m c) b n ⟨q / 8, by omega⟩ ⟨q % 8, by omega⟩ r j := by
  unfold S Att.score
  rw [blk_eq t n hn]
  by_cases hv : Att.Vis n r j
  · rw [if_pos hv, if_pos hv]
    refine congrArg (· * Ideal.ofBits .f32 1040187392#32) (Finset.sum_congr rfl fun d _ => ?_)
    refine congrArg₂ (· * ·) ((two_keys m c t b n hb hn r j hv _).trans ?_) ((rd_1 m c t r _ b n hb hn).trans ?_)
    · refine congrArg (Att.row (zin m c) b n j) (Fin.ext ?_)
      show 1024 + (64 * (q.val / 8) + d.val) = 1024 + (q.val / 8 * 64 + d.val)
      omega
    · refine congrArg (fun p => zin m c (ix3 b _ p)) (Fin.ext ?_)
      show 64 * q.val + d.val = q.val / 8 * 512 + q.val % 8 * 64 + d.val
      omega
  · rw [if_neg hv, if_neg hv]

/-- Finite queries and keys make every score less than `⊤`. -/
theorem score_lt (x : (⟨3, ![2, 4096, 1280]⟩ : Shape).Idx → EReal)
    (hx : ∀ (b : Fin 2) (p : Fin 4096) (e : Fin 1280), e.val < 1152 → ∃ r : ℝ, x (ix3 b p e) = (r : EReal))
    (b : Fin 2) (n : Fin 32) (h : Fin 2) (g : Fin 8) (r : Fin 128) (j : Fin 256) : Att.score x b n h g r j < ⊤ := by
  unfold Att.score
  split_ifs with hv
  · have hk : ∀ d : Fin 64, ∃ y : ℝ, Att.row x b n j ⟨1024 + (h.val * 64 + d.val), by omega⟩ = (y : EReal) := by
      intro d
      unfold Att.row
      split_ifs
      · exact hx _ _ _ (by dsimp only; omega)
      · exact ⟨0, rfl⟩
    obtain ⟨y, hy⟩ := Att.sum_real Finset.univ
      (fun d : Fin 64 => Att.row x b n j ⟨1024 + (h.val * 64 + d.val), by omega⟩
        * x (ix3 b ⟨n.val * 128 + r.val, by omega⟩ ⟨h.val * 512 + g.val * 64 + d.val, by omega⟩)) fun d => by
      obtain ⟨p, hp⟩ := hk d
      obtain ⟨q, hq⟩ := hx b ⟨n.val * 128 + r.val, by omega⟩ ⟨h.val * 512 + g.val * 64 + d.val, by omega⟩ (by dsimp only; omega)
      exact ⟨p * q, by rw [hp, hq, EReal.coe_mul]⟩
    obtain ⟨w, h8⟩ : ∃ w : ℝ, Ideal.ofBits .f32 1040187392#32 = (w : EReal) :=
      ⟨8388608 * (2 ^ 26)⁻¹, by rw [EReal.coe_mul]; simp [Ideal.ofBits, Ideal.ieee]⟩
    rw [hy, h8, ← EReal.coe_mul]
    exact EReal.coe_lt_top _
  · exact bot_lt_top

/-- What the result array ends holding. -/
def G (c : Dev nD) : S2x4096x1024.Idx → EReal := fun i =>
  Att.att (zin m c) (snk m c) (i 0) ⟨(i 1).val / 128, Nat.div_lt_of_lt_mul (i 1).isLt⟩ ⟨(i 1).val % 128, Nat.mod_lt _ (by decide)⟩
    ⟨(i 2).val / 512, Nat.div_lt_of_lt_mul (i 2).isLt⟩ ⟨(i 2).val / 64 % 8, Nat.mod_lt _ (by decide)⟩ ⟨(i 2).val % 64, Nat.mod_lt _ (by decide)⟩

variable {m} in
/-- A point's output block at an index. -/
theorem point (c : Dev nD)
    (hx : ∀ (b : Fin 2) (p : Fin 4096) (e : Fin 1280), e.val < 1152 → ∃ r : ℝ, zin m c (ix3 b p e) = (r : EReal))
    (hs : ∀ h : Fin 16, ∃ r : ℝ, snk m c (ix1 h) = (r : EReal))
    (t : Fin cfg0.N) (b : Fin 2) (n : Fin 32) (hb : t.val / 32 = b.val) (hn : t.val % 32 = n.val) (q : Fin 16) (r : Fin 128) (d : Fin 64) :
    hd (grid0.coords t) (iblk m c 0 t) (X0_1 m c t) (iblk m c 2 t) (iblk m c 3 t) (iblk m c 4 t) (iblk m c 5 t) q (ix2 r d)
      = Att.att (zin m c) (snk m c) b n r ⟨q / 8, by omega⟩ ⟨q % 8, by omega⟩ d := by
  rw [hd_apply]
  have e : S (grid0.coords t) (X0_1 m c t) (iblk m c 2 t) (iblk m c 3 t) q r
      = Att.score (zin m c) b n ⟨q / 8, by omega⟩ ⟨q % 8, by omega⟩ r := funext fun j => S_eq m c t b n hb hn q r j
  have ek : iblk m c 0 t (ix1 q) = Att.sink (snk m c) ⟨q / 8, by omega⟩ ⟨q % 8, by omega⟩ := by
    refine (rd_0 m c t q).trans (congrArg (fun p => snk m c (ix1 p)) (Fin.ext ?_))
    show q.val = q.val / 8 * 8 + q.val % 8
    omega
  rw [e, ek]
  obtain ⟨k, hk⟩ := hs ⟨q.val / 8 * 8 + q.val % 8, by omega⟩
  have hk' : Att.sink (snk m c) ⟨q / 8, by omega⟩ ⟨q % 8, by omega⟩ = (k : EReal) := hk
  refine Att.div_sum _ (fun j => Att.row (zin m c) b n j ⟨1152 + (q.val / 8 * 64 + d.val), by omega⟩)
    (fun j => score_lt (zin m c) hx b n _ _ r j) ?_ ?_ fun j hj => ?_
  · rw [hk']; exact EReal.coe_ne_bot k
  · rw [hk']; exact EReal.coe_lt_top k
  · have hv : Att.Vis n r j := by
      by_contra hv
      exact hj (by unfold Att.score; rw [if_neg hv])
    refine (two_vals m c t b n hb hn r j hv _).trans (congrArg (Att.row (zin m c) b n j) (Fin.ext ?_))
    show 1152 + (64 * (q.val / 8) + d.val) = 1152 + (q.val / 8 * 64 + d.val)
    omega

variable {m} in
/-- The result array after the run. -/
theorem final (c : Dev nD)
    (hx : ∀ (b : Fin 2) (p : Fin 4096) (e : Fin 1280), e.val < 1152 → ∃ r : ℝ, zin m c (ix3 b p e) = (r : EReal))
    (hs : ∀ h : Fin 16, ∃ r : ℝ, snk m c (ix1 h) = (r : EReal)) :
    (dats m 0 c).arrAt 6 cfg0.N = G m c := by
  refine (dats m 0 c).arrAt_eq_of_covers 6 _ (by decide +kernel) fun t hf y => ?_
  blk_simp
  rw [after0_6, outsAt0, out_eq]
  have hN : t.val < 64 := t.isLt
  obtain ⟨r, hr⟩ : ∃ r : Fin 128, r.val = (y 1).val := ⟨⟨_, (y 1).isLt⟩, rfl⟩
  obtain ⟨e, he⟩ : ∃ e : Fin 1024, e.val = (y 2).val := ⟨⟨_, (y 2).isLt⟩, rfl⟩
  obtain ⟨b, hb⟩ : ∃ b : Fin 2, t.val / 32 = b.val := ⟨⟨t.val / 32, by omega⟩, rfl⟩
  obtain ⟨n, hn⟩ : ∃ n : Fin 32, t.val % 32 = n.val := ⟨⟨t.val % 32, by omega⟩, rfl⟩
  have ey : y = ix3 (0 : Fin 1) r e := by
    blk_ext
  have em : (win0_6.blk t).view.emb y = ix3 b (⟨n.val * 128 + r.val, by omega⟩ : Fin 4096) e := by
    blk_ext [ix_6 t]
  rw [em]
  have P := pay2_apply (hd (grid0.coords t) (iblk m c 0 t) (X0_1 m c t) (iblk m c 2 t) (iblk m c 3 t) (iblk m c 4 t) (iblk m c 5 t)) r e
  refine Eq.trans (congrArg _ ey) (P.trans ((point c hx hs t b n hb hn _ _ _).trans ?_))
  unfold G
  dsimp only
  congr 1
  · refine Fin.ext ?_
    show n.val = (n.val * 128 + r.val) / 128
    omega
  · refine Fin.ext ?_
    show r.val = (n.val * 128 + r.val) % 128
    omega
  · refine Fin.ext ?_
    show e.val / 64 / 8 = e.val / 512
    omega

end Cert.KernelIdeal.Att
-- ==== Proof.Pre.lean ====
/-
  What the precondition says: every query, key and sink is a real number.
-/
module
public import proofs.«01_k».proof.Proof.Final
public import proofs.«01_k».proof.Defs
@[expose] public section
set_option maxRecDepth 16384
noncomputable section
namespace Cert.Pre_finite_scores.Att
open Idealize.ShloMosaic.Tactic Cert.Pre_finite_scores Idealize.ShloMosaic Idealize.ShloMosaic.TcCoe Idealize.SL.Sem

/-- The side conditions of the precondition's printed function. -/
theorem facts : Facts := ⟨by decide, by decide, by decide⟩

/-- A comparison of an absolute value with `⊤` that holds makes the number real. -/
theorem real_of_cmp (x : EReal) {w : EReal} (hw : w = ⊤) (h : BitVec.ofBool (decide (max x (-x) < w)) = 1#1) :
    ∃ r : ℝ, x = (r : EReal) := by
  subst hw
  refine Cert.Att.real_of_abs_lt ?_
  by_contra hc
  rw [decide_eq_false hc] at h
  exact absurd h (by decide)

/-- The queries and keys are real. -/
theorem zs [Facts] (z : FVec Ideal S2x4096x1280 .bf16) (s : FVec Ideal S16 .f32) (h : (fn (F := Ideal) z s).1 = fun _ => 1#1)
    (b : Fin 2) (p : Fin 4096) (e : Fin 1280) (he : e.val < 1152) : ∃ r : ℝ, z (ix3 b p e) = (r : EReal) := by
  have h' := congrFun h (ix3 b p (⟨e.val, he⟩ : Fin 1152))
  revert h'
  unfold fn
  dsimp only
  pointwise
  exact real_of_cmp _ (by simp [Ideal.ofBits, Ideal.ieee])

/-- The sinks are real. -/
theorem ss [Facts] (z : FVec Ideal S2x4096x1280 .bf16) (s : FVec Ideal S16 .f32) (h : (fn (F := Ideal) z s).2 = fun _ => 1#1)
    (q : Fin 16) : ∃ r : ℝ, s (ix1 q) = (r : EReal) := by
  have h' := congrFun h (ix1 q)
  revert h'
  unfold fn
  dsimp only
  pointwise
  exact real_of_cmp _ (by simp [Ideal.ofBits, Ideal.ieee])

end Cert.Pre_finite_scores.Att
-- ==== Proof.WoPre.lean ====
/-
  What the output projection's precondition says: the norm's gain, the shift, the scale and the router's weights are real.
-/
module
public import proofs.«01_k».proof.Proof.Pre
public import proofs.«01_k».proof.Proof.WoSpec
public import proofs.«01_k».proof.Defs
@[expose] public section
set_option maxRecDepth 16384
noncomputable section
namespace Cert.Pre_finite_router.Wo
open Idealize.ShloMosaic.Tactic Cert.Pre_finite_router Cert.Pre_finite_router.Facts Idealize.ShloMosaic Idealize.ShloMosaic.TcCoe Idealize.SL.Sem

/-- The side conditions of the precondition's printed function. -/
theorem facts : Facts := ⟨by decide, by decide, by decide, by decide⟩

/-- An array whose absolute values all compare below the infinity is real. -/
theorem real_of {S : Shape} {φ : FTy} (x w : FVec Ideal S φ) (hw : ∀ i, w i = (⊤ : EReal))
    (h : cmpf (F := Ideal) .olt (Host.absf x) w = fun _ => 1#1) (i : S.Idx) : Cert.Wo.Real (x i) :=
  Cert.Pre_finite_scores.Att.real_of_cmp (x i) (hw i) (congrFun h i)

theorem inf32 : Ideal.ofBits .f32 0x7F800000#32 = ⊤ := by simp [Ideal.ofBits, Ideal.ieee]

/-- The precondition's arrays are real. -/
theorem all [Facts] (a0 a1 : FVec Ideal S2x4096x1024 .bf16) (a2 : FVec Ideal S2x4096x2048 .f32) (a3 : FVec Ideal S2048x2048 .f32)
    (a4 : FVec Ideal S2x2048 .f32) (a5 : FVec Ideal S2048 .f32) (a6 a7 : FVec Ideal S2x2048 .f32) (a8 : FVec Ideal S2048x8 .f32)
    (a9 : FVec Ideal S8 .f32) (a10 : FVec Ideal S2048x64 .f32) (a11 : FVec Ideal S64 .f32)
    (h : (fn (F := Ideal) a0 a1 a2 a3 a4 a5 a6 a7 a8 a9 a10 a11).1 = (fun _ => 1#1)
      ∧ (fn (F := Ideal) a0 a1 a2 a3 a4 a5 a6 a7 a8 a9 a10 a11).2.1 = (fun _ => 1#1)
      ∧ (fn (F := Ideal) a0 a1 a2 a3 a4 a5 a6 a7 a8 a9 a10 a11).2.2.1 = (fun _ => 1#1)
      ∧ (fn (F := Ideal) a0 a1 a2 a3 a4 a5 a6 a7 a8 a9 a10 a11).2.2.2.1 = (fun _ => 1#1)
      ∧ (fn (F := Ideal) a0 a1 a2 a3 a4 a5 a6 a7 a8 a9 a10 a11).2.2.2.2 = (fun _ => 1#1)) :
    (∀ i, Cert.Wo.Real (a5 i)) ∧ (∀ i, Cert.Wo.Real (a6 i)) ∧ (∀ i, Cert.Wo.Real (a7 i))
      ∧ (∀ i, Cert.Wo.Real (a8 i)) ∧ (∀ i, Cert.Wo.Real (a10 i)) := by
  obtain ⟨h5, h6, h7, h8, h10⟩ := h
  exact ⟨real_of a5 _ (fun _ => inf32) h5, real_of a6 _ (fun _ => inf32) h6, real_of a7 _ (fun _ => inf32) h7,
    real_of a8 _ (fun _ => inf32) h8, real_of a10 _ (fun _ => inf32) h10⟩

end Cert.Pre_finite_router.Wo
-- ==== Proof.InRun.lean ====
/-
  One grid point of the input projection, run on any whole staging buffers: the row block, the norm's gain, the shift and the
  scale, the weights, the token-shift weights, the two rotary tables, the two result blocks and the carried last rows. The run
  finds the pieces the stores leave in the two results and in the carried rows.
-/
module
public import proofs.«01_k».proof.Proof.Gen.Kernel2Ideal.Skeleton
public import proofs.«01_k».proof.Proof.Gen.Kernel2Ideal.Frame
@[expose] public section
set_option maxRecDepth 16384
noncomputable section
namespace Cert.Kernel2Ideal.Proj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S1x1x2048 .f32) (h3 : a3.IsWhole) (a4 : Memref sig .tc .vmem S1x1x2048 .f32) (h4 : a4.IsWhole)
  (a5 : Memref sig .tc .vmem S2048x4736 .bf16) (h5 : a5.IsWhole) (a6 : Memref sig .tc .vmem S1x3456 .f32) (h6 : a6.IsWhole)
  (a7 : Memref sig .tc .vmem S256x128 .f32) (h7 : a7.IsWhole) (a8 : Memref sig .tc .vmem S256x128 .f32) (h8 : a8.IsWhole)
  (a9 : Memref sig .tc .vmem S256x1280 .bf16) (h9 : a9.IsWhole) (a10 : Memref sig .tc .vmem S256x3456 .f32) (h10 : a10.IsWhole)
  (a11 : Memref sig .tc .vmem S8x3456 .f32) (h11 : a11.IsWhole)
  (x1 : Vec F S256x2048 .f32) (x2 : Vec F S1x2048 .f32) (x3 x4 : Vec F S1x1x2048 .f32) (x5 : Vec F S2048x4736 .bf16)
  (x6 : Vec F S1x3456 .f32) (x7 x8 : Vec F S256x128 .f32) (xs : Vec F S8x3456 .f32)

/-- The eight input buffers at their contents. -/
def ins : sProp 𝕄 :=
  iprop(owns (c : Thread nD τ) a1 fullShare x1 ∗ owns (c : Thread nD τ) a2 fullShare x2 ∗ owns (c : Thread nD τ) a3 fullShare x3
    ∗ owns (c : Thread nD τ) a4 fullShare x4 ∗ owns (c : Thread nD τ) a5 fullShare x5 ∗ owns (c : Thread nD τ) a6 fullShare x6
    ∗ owns (c : Thread nD τ) a7 fullShare x7 ∗ owns (c : Thread nD τ) a8 fullShare x8)

/-- A buffer with pieces written over some contents. -/
def left {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

set_option maxHeartbeats 1600000 in
/-- The point's body from the inputs at their contents, the results at anything and the carried rows at `xs`: it leaves the
    inputs, and pieces in the two results and in the carried rows. -/
def run : Σ' (L9 : List (View.Piece (Elt F) S256x1280 .bf16)), Σ' (L10 : List (View.Piece (Elt F) S256x3456 .f32)),
    { LS : List (View.Piece (Elt F) S8x3456 .f32) // ∀ (E : Set ℕ) (K : PUnit → sProp 𝕄),
      iprop(ins c a1 a2 a3 a4 a5 a6 a7 a8 x1 x2 x3 x4 x5 x6 x7 x8 ∗ (∃ d, owns (c : Thread nD τ) a9 fullShare d)
          ∗ (∃ d, owns (c : Thread nD τ) a10 fullShare d) ∗ owns (c : Thread nD τ) a11 fullShare xs
          ∗ (iprop(ins c a1 a2 a3 a4 a5 a6 a7 a8 x1 x2 x3 x4 x5 x6 x7 x8 ∗ left c a9 L9 ∗ left c a10 L10 ∗ left c a11 LS) -∗ K ⟨⟩))
        ⊢ wp frame (wpE (defs₀ (F := F)) Variants.none c none) E
            (cc0_inproj i a1 h1 a2 h2 a3 h3 a4 h4 a5 h5 a6 h6 a7 h7 a8 h8 a9 h9 a10 h10 a11 h11) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton]
    unfold ins left owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%d10, %f10, -, H10⟩, ⟨%fs, %es, HS⟩, Hk⟩
    obtain rfl := h1.eq_unread e1; obtain rfl := h2.eq_unread e2; obtain rfl := h3.eq_unread e3; obtain rfl := h4.eq_unread e4
    obtain rfl := h5.eq_unread e5; obtain rfl := h6.eq_unread e6; obtain rfl := h7.eq_unread e7; obtain rfl := h8.eq_unread e8
    obtain rfl := h11.eq_unread es
    sl_exec
    sl_step
    iapply Hk
    isplitl [H1 H2 H3 H4 H5 H6 H7 H8]
    · isplitl [H1]; · iexists _; isplitr; · ipureintro; exact h1.read_unread _
                      iexact H1
      isplitl [H2]; · iexists _; isplitr; · ipureintro; exact h2.read_unread _
                      iexact H2
      isplitl [H3]; · iexists _; isplitr; · ipureintro; exact h3.read_unread _
                      iexact H3
      isplitl [H4]; · iexists _; isplitr; · ipureintro; exact h4.read_unread _
                      iexact H4
      isplitl [H5]; · iexists _; isplitr; · ipureintro; exact h5.read_unread _
                      iexact H5
      isplitl [H6]; · iexists _; isplitr; · ipureintro; exact h6.read_unread _
                      iexact H6
      isplitl [H7]; · iexists _; isplitr; · ipureintro; exact h7.read_unread _
                      iexact H7
      iexists _; isplitr; · ipureintro; exact h8.read_unread _
      iexact H8
    isplitl [H9]; · iexists _; iexact H9
    isplitl [H10]; · iexists _; iexact H10
    iexists _; iexact HS

end Cert.Kernel2Ideal.Proj
-- ==== Proof.InOut.lean ====
/-
  What one grid point of the input projection leaves, as functions of the blocks it reads: the attention columns in five
  pieces of 256 columns, the recurrence's columns in seven pieces, and the carried last rows in seven pieces. The pieces of a
  result are one function of the piece's number.
-/
module
public import proofs.«01_k».proof.Proof.InRun
@[expose] public section
set_option maxRecDepth 16384
noncomputable section
namespace Cert.Kernel2Ideal.Proj
open Cert.Kernel2Ideal Cert.Kernel2Ideal.Gen
open Idealize.ShloMosaic Idealize.ShloMosaic.TcCoe Idealize.ShloMosaic.Tactic Idealize.SL.Sem

variable {F : FTy → Type} [FloatOps F]

variable (i : grid0.Coords)
  (x1 : Vec F S256x2048 .f32) (x2 : Vec F S1x2048 .f32) (x3 x4 : Vec F S1x1x2048 .f32) (x5 : Vec F S2048x4736 .bf16)
  (x6 : Vec F S1x3456 .f32) (x7 x8 : Vec F S256x128 .f32) (xs : Vec F S8x3456 .f32)

/-- A load off a whole staging buffer that holds `x` reads `x` through the load's rectangle. -/
theorem readAt_unread {sp : Space} {s : Shape} {e : EltTy} (a : Memref sig .tc sp s e) (h : a.IsWhole) (x : Vec F s e)
    (r : Rect s) : View.readAt (Elt F) a.view r.toLoadRect (h.unread x) = View.ld x r := by
  show View.ld (a.view.read (Elt F) (h.unread x)) r = _
  rw [h.read_unread]

/-- Columns `256 k` to `256 k + 256` lie inside the attention block. -/
theorem za_in (k : Fin 5) : ∀ a, (![0, 256 * k.val] : Fin 2 → Nat) a + S256x256.size a ≤ S256x1280.size a := fun a => by
  have := k.isLt
  match a with
  | ⟨0, _⟩ => exact Nat.le_refl 256
  | ⟨1, _⟩ => show 256 * k.val + 256 ≤ 1280; omega

/-- The same columns of the weights. -/
theorem wa_in (k : Fin 5) : ∀ a, (![0, 256 * k.val] : Fin 2 → Nat) a + S2048x256.size a ≤ S2048x4736.size a := fun a => by
  have := k.isLt
  match a with
  | ⟨0, _⟩ => exact Nat.le_refl 2048
  | ⟨1, _⟩ => show 256 * k.val + 256 ≤ 4736; omega

/-- Columns `512 k` to `512 k + 512`, of `r` rows from row `o`, lie inside an array of at least as many rows and 3456 columns. -/
theorem zr_in {r o R : Nat} (h : o + r ≤ R) (k : Fin 6) :
    ∀ a, (![o, 512 * k.val] : Fin 2 → Nat) a + (![r, 512] : Fin 2 → Nat) a ≤ (⟨2, ![R, 3456]⟩ : Shape).size a := fun a => by
  have := k.isLt
  match a with
  | ⟨0, _⟩ => exact h
  | ⟨1, _⟩ => show 512 * k.val + 512 ≤ 3456; omega

/-- The weights of those columns. -/
theorem wr_in (k : Fin 6) : ∀ a, (![0, 1280 + 512 * k.val] : Fin 2 → Nat) a + S2048x512.size a ≤ S2048x4736.size a := fun a => by
  have := k.isLt
  match a with
  | ⟨0, _⟩ => exact Nat.le_refl 2048
  | ⟨1, _⟩ => show 1280 + 512 * k.val + 512 ≤ 4736; omega

/-- The point's modulated rows. -/
def hh : FVec F S256x2048 .bf16 :=
  k0_pay1 (View.ld x1 (Rect.unit (s := S256x2048) ![0, 0] S256x2048.size inb_S256x2048_S256x2048_0_0))
    (View.ld x2 (Rect.unit (s := S1x2048) ![0, 0] S1x2048.size inb_S1x2048_S1x2048_0_0))
    (View.ld x4 (Rect.unit (s := S1x1x2048) ![0, 0, 0] S1x1x2048.size inb_S1x1x2048_S1x1x2048_0_0_0))
    (View.ld x3 (Rect.unit (s := S1x1x2048) ![0, 0, 0] S1x1x2048.size inb_S1x1x2048_S1x1x2048_0_0_0))

/-- A rotary table's block. -/
def tb (x : Vec F S256x128 .f32) : Vec F S256x128 .f32 :=
  View.ld x (Rect.unit (s := S256x128) ![0, 0] S256x128.size inb_S256x128_S256x128_0_0)

/-- The weights of piece `k` of the attention columns. -/
def wa (k : Fin 5) : Vec F S2048x256 .bf16 := View.ld x5 (Rect.unit (s := S2048x4736) ![0, 256 * k.val] S2048x256.size (wa_in k))

/-- Piece `k` of the query columns: projected, then rotated. -/
def qc (k : Fin 5) : View.Piece (Elt F) S256x1280 .bf16 :=
  ⟨Rect.unit (s := S256x1280) ![0, 256 * k.val] S256x256.size (za_in k),
    k0_pay11 (hh x1 x2 x3 x4) (k0_pay2 (tb x7) (tb x7)) (k0_pay3 (tb x8) (tb x8)) (wa x5 k)⟩

/-- The five pieces of the attention columns, the last of them the keys' and the values'. -/
def Lza : List (View.Piece (Elt F) S256x1280 .bf16) :=
  [⟨Rect.unit (s := S256x1280) ![0, 1024] S256x256.size (za_in 4), k0_pay12 (hh x1 x2 x3 x4) (wa x5 4) (tb x7) (tb x8)⟩,
    qc x1 x2 x3 x4 x5 x7 x8 3, qc x1 x2 x3 x4 x5 x7 x8 2, qc x1 x2 x3 x4 x5 x7 x8 1, qc x1 x2 x3 x4 x5 x7 x8 0]

/-- Whether the point is the first of its sequence, as the kernel computes it. -/
def first : BitVec 1 :=
  let v : BitVec 32 := Scalar.remsi (BitVec.ofNat 32 (i 0).val) 16#32
  Scalar.cmpi .eq (Scalar.select (Scalar.andi (Scalar.xori (Scalar.cmpi .slt v 0#32) (Scalar.cmpi .slt 16#32 0#32))
    (Scalar.cmpi .ne v 0#32)) (Scalar.addi v 16#32) v) 0#32

/-- The row numbers. -/
def rows : IVec S256x1 32 := iota .tc S256x1 32 [0] iota_S256x1_d0_w32

/-- The weights of piece `k` of the recurrence's columns. -/
def wr (k : Fin 6) : Vec F S2048x512 .bf16 :=
  View.ld x5 (Rect.unit (s := S2048x4736) ![0, 1280 + 512 * k.val] S2048x512.size (wr_in k))

/-- The weights of the last piece of the recurrence's columns. -/
def wl : Vec F S2048x384 .bf16 :=
  View.ld x5 (Rect.unit (s := S2048x4736) ![0, 4352] S2048x384.size inb_S2048x4736_S2048x384_0_4352)

/-- Piece `k` of the recurrence's columns: projected, then mixed with the row before. -/
def rc (b : BitVec 1) (k : Fin 6) : View.Piece (Elt F) S256x3456 .f32 :=
  ⟨Rect.unit (s := S256x3456) ![0, 512 * k.val] S256x512.size (zr_in (Nat.le_refl 256) k),
    k0_pay27 (hh x1 x2 x3 x4) b rows (wr x5 k)
      (View.ld xs (Rect.unit (s := S8x3456) ![7, 512 * k.val] S1x512.size (zr_in (Nat.le_refl 8) k)))
      (View.ld x6 (Rect.unit (s := S1x3456) ![0, 512 * k.val] S1x512.size (zr_in (Nat.le_refl 1) k)))⟩

/-- The last piece of the recurrence's columns. -/
def rl (b : BitVec 1) : View.Piece (Elt F) S256x3456 .f32 :=
  ⟨Rect.unit (s := S256x3456) ![0, 3072] S256x384.size inb_S256x3456_S256x384_0_3072,
    k0_pay39 (hh x1 x2 x3 x4) b rows (wl x5)
      (View.ld xs (Rect.unit (s := S8x3456) ![7, 3072] S1x384.size inb_S8x3456_S1x384_7_3072))
      (View.ld x6 (Rect.unit (s := S1x3456) ![0, 3072] S1x384.size inb_S1x3456_S1x384_0_3072))⟩

/-- The seven pieces of the recurrence's columns. -/
def Lzr (b : BitVec 1) : List (View.Piece (Elt F) S256x3456 .f32) :=
  let p := rc x1 x2 x3 x4 x5 x6 xs b
  [rl x1 x2 x3 x4 x5 x6 xs b, p 5, p 4, p 3, p 2, p 1, p 0]

/-- Piece `k` of the carried rows: the last eight projected rows. -/
def cc (k : Fin 6) : View.Piece (Elt F) S8x3456 .f32 :=
  ⟨Rect.unit (s := S8x3456) ![0, 512 * k.val] S8x512.size (zr_in (Nat.le_refl 8) k), k0_pay26 (hh x1 x2 x3 x4) (wr x5 k)⟩

/-- The seven pieces of the carried rows. -/
def Lcr : List (View.Piece (Elt F) S8x3456 .f32) :=
  let p := cc x1 x2 x3 x4 x5
  [⟨Rect.unit (s := S8x3456) ![0, 3072] S8x384.size inb_S8x3456_S8x384_0_3072, k0_pay38 (hh x1 x2 x3 x4) (wl x5)⟩,
    p 5, p 4, p 3, p 2, p 1, p 0]

/-- The attention columns the point leaves. -/
def za : Vec F S256x1280 .bf16 := View.canon (Lza x1 x2 x3 x4 x5 x7 x8)

/-- The recurrence's columns the point leaves. -/
def zr : Vec F S256x3456 .f32 := View.canon (Lzr x1 x2 x3 x4 x5 x6 xs (first i))

/-- The carried rows the point leaves. -/
def cr : Vec F S8x3456 .f32 := View.canon (Lcr x1 x2 x3 x4 x5)

section
variable (c : Dev nD)
  (a1 : Memref sig .tc .vmem S256x2048 .f32) (h1 : a1.IsWhole) (a2 : Memref sig .tc .vmem S1x2048 .f32) (h2 : a2.IsWhole)
  (a3 : Memref sig .tc .vmem S1x1x2048 .f32) (h3 : a3.IsWhole) (a4 : Memref sig .tc .vmem S1x1x2048 .f32) (h4 : a4.IsWhole)
  (a5 : Memref sig .tc .vmem S2048x4736 .bf16) (h5 : a5.IsWhole) (a6 : Memref sig .tc .vmem S1x3456 .f32) (h6 : a6.IsWhole)
  (a7 : Memref sig .tc .vmem S256x128 .f32) (h7 : a7.IsWhole) (a8 : Memref sig .tc .vmem S256x128 .f32) (h8 : a8.IsWhole)
  (a9 : Memref sig .tc .vmem S256x1280 .bf16) (h9 : a9.IsWhole) (a10 : Memref sig .tc .vmem S256x3456 .f32) (h10 : a10.IsWhole)
  (a11 : Memref sig .tc .vmem S8x3456 .f32) (h11 : a11.IsWhole)

set_option maxHeartbeats 2000000 in
/-- The pieces the run finds in the attention block. -/
theorem run_za : (run c i a1 h1 a2 h2 a3 h3 a4 h4 a5 h5 a6 h6 a7 h7 a8 h8 a9 h9 a10 h10 a11 h11 x1 x2 x3 x4 x5 x6 x7 x8 xs).1
    = Lza x1 x2 x3 x4 x5 x7 x8 := by
  unfold run; dsimp only; sl_unfold_words
  simp only [readAt_unread]
  rfl

set_option maxHeartbeats 2000000 in
/-- The pieces the run finds in the recurrence's block. -/
theorem run_zr : (run c i a1 h1 a2 h2 a3 h3 a4 h4 a5 h5 a6 h6 a7 h7 a8 h8 a9 h9 a10 h10 a11 h11 x1 x2 x3 x4 x5 x6 x7 x8 xs).2.1
    = Lzr x1 x2 x3 x4 x5 x6 xs (first i) := by
  unfold run; dsimp only; sl_unfold_words
  simp only [readAt_unread]
  rfl

set_option maxHeartbeats 2000000 in
/-- The pieces the run finds in the carried rows. -/
theorem run_cr : (run c i a1 h1 a2 h2 a3 h3 a4 h4 a5 h5 a6 h6 a7 h7 a8 h8 a9 h9 a10 h10 a11 h11 x1 x2 x3 x4 x5 x6 x7 x8 xs).2.2.1
    = Lcr x1 x2 x3 x4 x5 := by
  unfold run; dsimp only; sl_unfold_words
  simp only [readAt_unread]
  rfl
end

/-- The attention pieces cover their block. -/
theorem cover_za (y : S256x1280.Idx) : ∃ p ∈ Lza x1 x2 x3 x4 x5 x7 x8, y ∈ p.1.set :=
  View.cover_of_tiledBy (Lza x1 x2 x3 x4 x5 x7 x8) ![256, 256] (by sl_kernel_rfl) y

/-- The recurrence's pieces cover their block. -/
theorem cover_zr (b : BitVec 1) (y : S256x3456.Idx) : ∃ p ∈ Lzr x1 x2 x3 x4 x5 x6 xs b, y ∈ p.1.set :=
  View.cover_of_tiledBy (Lzr x1 x2 x3 x4 x5 x6 xs b) ![256, 128] (by sl_kernel_rfl) y

/-- The carried pieces cover the carried rows. -/
theorem cover_cr (y : S8x3456.Idx) : ∃ p ∈ Lcr x1 x2 x3 x4 x5, y ∈ p.1.set :=
  View.cover_of_tiledBy (Lcr x1 x2 x3 x4 x5) ![8, 128] (by sl_kernel_rfl) y

/-- At the first point of a sequence the carried rows do not matter. -/
theorem zr_first (xs' : Vec F S8x3456 .f32) (h : first i = 1#1) : zr i x1 x2 x3 x4 x5 x6 xs = zr i x1 x2 x3 x4 x5 x6 xs' := by
  unfold zr
  rw [h]
  rfl

end Cert.Kernel2Ideal.Proj
-- ==== Proof.InBody.lean ====
/-
  The input projection's run over the grid: what is staged at each point, what the carried rows hold between points, and the
  launch. The carried rows enter a point only where it is not the first of its sequence.
-/
module
public import proofs.«01_k».proof.Proof.InOut
public import Idealize.ShloMosaic.Lib.Claim
@[expose] public section
set_option maxRecDepth 16384
noncomputable section
namespace Cert.Kernel2Ideal.Proj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried rows' buffer. -/
abbrev carried : Memref sig .tc .vmem S8x3456 .f32 := Memref.whole cc0_scratch0

/-- The carried rows after point `n`, a function of that point's blocks (past the grid, of the first point's). -/
def crAt (c : Dev nD) (n : ℕ) : Vec F S8x3456 .f32 :=
  let t : Fin cfg0.N := if h : n < cfg0.N then ⟨n, h⟩ else ⟨0, by rw [show cfg0.N = 32 from N_0]; decide⟩
  cr (iblk m c 0 t) (iblk m c 1 t) (iblk m c 2 t) (iblk m c 3 t) (iblk m c 4 t)

/-- The region's invariant before point `n`: the carried rows at what the point before left, at anything before the first
    point, and the generator's register at some state. -/
def inv (c : Dev nD) (n : ℕ) : sProp 𝕄 :=
  iprop((∃ s, ⌜n ≠ 0 → s = crAt m c (n - 1)⌝ ∗ owns (c : Thread nD τ) carried fullShare s) ∗ (∃ r, prngReg c r))

/-- The proof data: the arrays as the region finds them; each input's block stays, the two results are the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => za (iblk m c 0 t) (iblk m c 1 t) (iblk m c 2 t) (iblk m c 3 t) (iblk m c 4 t) (iblk m c 6 t) (iblk m c 7 t)
    | ⟨9, _⟩ => zr (grid0.coords t) (iblk m c 0 t) (iblk m c 1 t) (iblk m c 2 t) (iblk m c 3 t) (iblk m c 4 t) (iblk m c 5 t)
        (crAt m c (t.val - 1))
  Φ t := inv m c t.val
  q _ := fullShare
  owed _ := 0

/-- The arrays of the proof data are those the region finds. -/
theorem A_eq (c : Dev nD) (w : Fin cfg0.W) : (dats m 0 c).A w = V m c (Pipeline.arrRef spec0 w) := by dsimp only [dats]

/-- What the point leaves in the attention block. -/
theorem after8 (c : Dev nD) (t : Fin cfg0.N) : (dats m 0 c).after 8 t
    = za (iblk m c 0 t) (iblk m c 1 t) (iblk m c 2 t) (iblk m c 3 t) (iblk m c 4 t) (iblk m c 6 t) (iblk m c 7 t) := by
  dsimp only [dats]

/-- What the point leaves in the recurrence's block. -/
theorem after9 (c : Dev nD) (t : Fin cfg0.N) : (dats m 0 c).after 9 t
    = zr (grid0.coords t) (iblk m c 0 t) (iblk m c 1 t) (iblk m c 2 t) (iblk m c 3 t) (iblk m c 4 t) (iblk m c 5 t)
        (crAt m c (t.val - 1)) := by
  dsimp only [dats]

/-- The first point of the grid is the first of its sequence. -/
theorem first_zero : ∀ t : Fin grid0.N, t.val = 0 → first (grid0.coords t) = 1#1 := by decide +kernel

/-- The carried rows after point `t`. -/
theorem crAt_val (c : Dev nD) (t : Fin cfg0.N) :
    crAt m c t.val = cr (iblk m c 0 t) (iblk m c 1 t) (iblk m c 2 t) (iblk m c 3 t) (iblk m c 4 t) := by
  unfold crAt
  rw [dif_pos t.isLt]

/-- What the body is called with. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

/-- A buffer with pieces written over some contents holds the pieces' canonical contents, when they cover it. -/
theorem left_owns (c : Dev nD) {s : Shape} {e : EltTy} (a : Memref sig .tc .vmem s e) (L L' : List (View.Piece (Elt F) s e))
    (hL : L = L') (hc : ∀ y : s.Idx, ∃ p ∈ L', y ∈ p.1.set) (d : Vec F s e) (hd : View.canon L' = d) :
    left c a L ⊢ owns (c : Thread nD τ) a fullShare d := by
  subst hL; subst hd
  unfold left owns
  iintro ⟨%f, H⟩
  iexists _; isplitr
  swap; · iexact H
  ipureintro; exact View.read_writes_eq_canon _ _ _ hc

set_option maxHeartbeats 6400000 in
/-- The body at any point: it finds the inputs' blocks and the carried rows the point before left, and leaves the point's two
    result blocks and its own last rows. -/
theorem body (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl),
    before0_6_of m (dats m 0 c) (A_eq m c 6) (fun _ => rfl), before0_7_of m (dats m 0 c) (A_eq m c 7) (fun _ => rfl)]
  rw [show (dats m 0 c).owesAt () t.succ = (dats m 0 c).owesAt () t.castSucc from rfl, after8, after9,
    show (dats m 0 c).after 0 t = iblk m c 0 t by dsimp only [dats], show (dats m 0 c).after 1 t = iblk m c 1 t by dsimp only [dats],
    show (dats m 0 c).after 2 t = iblk m c 2 t by dsimp only [dats], show (dats m 0 c).after 3 t = iblk m c 3 t by dsimp only [dats],
    show (dats m 0 c).after 4 t = iblk m c 4 t by dsimp only [dats], show (dats m 0 c).after 5 t = iblk m c 5 t by dsimp only [dats],
    show (dats m 0 c).after 6 t = iblk m c 6 t by dsimp only [dats], show (dats m 0 c).after 7 t = iblk m c 7 t by dsimp only [dats],
    show (dats m 0 c).Φ t.castSucc = inv m c t.val from rfl, show (dats m 0 c).Φ t.succ = inv m c (t.val + 1) from rfl]
  unfold inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) s).2.2.2 Set.univ _)
  unfold ins
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [HS]; · iexact HS
  iintro ⟨⟨H0, H1, H2, H3, H4, H5, H6, H7⟩, H8, H9, HS⟩
  isplitl [HS Hg]
  · isplitl [HS]
    · iexists (crAt m c t.val)
      isplitr
      · ipureintro; exact fun _ => rfl
      iapply (left_owns c _ _ _ (run_cr _ _ _ _ _ _ _ _ _ _ _ _ _ _ _ _ _ _ _ _ _ _ _ _ _ _ _ _ _ _ _ _ _) (cover_cr _ _ _ _ _) _ (crAt_val m c t).symm)
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (left_owns c _ _ _ (run_za _ _ _ _ _ _ _ _ _ _ _ _ _ _ _ _ _ _ _ _ _ _ _ _ _ _ _ _ _ _ _ _ _) (cover_za _ _ _ _ _ _ _) _ rfl)
    iexact H8
  have e : zr (grid0.coords t) (iblk m c 0 t) (iblk m c 1 t) (iblk m c 2 t) (iblk m c 3 t) (iblk m c 4 t) (iblk m c 5 t) s
      = zr (grid0.coords t) (iblk m c 0 t) (iblk m c 1 t) (iblk m c 2 t) (iblk m c 3 t) (iblk m c 4 t) (iblk m c 5 t) (crAt m c (t.val - 1)) := by
    by_cases hz : t.val = 0
    · exact zr_first _ _ _ _ _ _ _ _ _ (first_zero t hz)
    · rw [hs hz]
  iapply (left_owns c _ _ _ (run_zr _ _ _ _ _ _ _ _ _ _ _ _ _ _ _ _ _ _ _ _ _ _ _ _ _ _ _ _ _ _ _ _ _) (cover_zr _ _ _ _ _ _ _ _) _ e)
  iexact H9

/-- The body's row of the table at point `t` is the body there. -/
theorem row (t : Fin cfg0.N) : defs₀ (F := F) .tc cfg0.body (cfg0.bodyArgs t (cfg0.slots t)) = bodyAt0 t := by
  unfold defs₀; rw [Defs.onTc_tc]

/-- The library's obligation of the body, at every point. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-- What the launch hands over: the carried rows at anything. -/
theorem launch_eq (c : Dev nD) : (Pipeline.ΦA spec0 c : sProp 𝕄)
    = iprop((∃ d, owns (c : Thread nD τ) carried fullShare d) ∗ (∃ r, prngReg c r)) := by
  unfold Pipeline.ΦA; rw [scopedRest0_eq]; simp only [carried, owns_whole]; rfl

/-- The launch's hand-over gives the invariant before the first point. -/
theorem hin (c : Dev nD) : Pipeline.ΦA spec0 c ⊢ (dats m 0 c).Φ 0 := by
  rw [show (dats m 0 c).Φ 0 = inv m c 0 from rfl, launch_eq]
  unfold inv
  iintro ⟨⟨%d, H⟩, Hg⟩
  isplitl [H]
  · iexists d
    isplitr
    · ipureintro; exact fun h => absurd rfl h
    iexact H
  iexact Hg

/-- The invariant after the last point gives the scratch back. -/
theorem hout (c : Dev nD) : (dats m 0 c).Φ (Fin.last cfg0.N) ⊢ Pipeline.ΦA spec0 c := by
  rw [show (dats m 0 c).Φ (Fin.last cfg0.N) = inv m c cfg0.N from rfl, launch_eq]
  unfold inv
  iintro ⟨⟨%s, -, H⟩, Hg⟩
  isplitl [H]
  · iexists s; iexact H
  iexact Hg

set_option backward.isDefEq.respectTransparency.types false in
/-- The launch: the run ends with the arrays at what the proof data compute and every semaphore at zero. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Kernel2Ideal.Proj
-- ==== Proof.InHost.lean ====
/-
  What the host code in front of the input projection leaves, and the blocks each point reads of it.
-/
module
public import proofs.«01_k».proof.Proof.InBody
public import proofs.«01_k».proof.Proof.InSpec
public import Idealize.ShloMosaic.Lib.Pointwise
public import Idealize.ShloMosaic.Lib.Pipeline.ValueKit
@[expose] public section
set_option maxRecDepth 16384
noncomputable section
namespace Cert.Kernel2Ideal.Proj
open Idealize.ShloMosaic.Tactic Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The rows. -/
abbrev ax : S2x4096x2048.Idx → EReal := m ((c.tc : Thread nD τ).loc main_arg0)
/-- The gains. -/
abbrev ag : S2048.Idx → EReal := m ((c.tc : Thread nD τ).loc main_arg1)
/-- The shifts. -/
abbrev ash : S2x2048.Idx → EReal := m ((c.tc : Thread nD τ).loc main_arg2)
/-- The scales. -/
abbrev asc : S2x2048.Idx → EReal := m ((c.tc : Thread nD τ).loc main_arg3)
/-- The weights. -/
abbrev aw : S2048x4640.Idx → EReal := m ((c.tc : Thread nD τ).loc main_arg4)
/-- The mixing weights. -/
abbrev amu : S3360.Idx → EReal := m ((c.tc : Thread nD τ).loc main_arg5)
/-- The cosines. -/
abbrev aco : S4096x32.Idx → EReal := m ((c.tc : Thread nD τ).loc main_arg6)
/-- The sines. -/
abbrev asi : S4096x32.Idx → EReal := m ((c.tc : Thread nD τ).loc main_arg7)

/-- Four tables side by side. -/
def quad (a b d e : FVec Ideal S4096x32 .f32) : FVec Ideal S4096x128 .f32 :=
  concatenate S4096x128 1 [⟨S4096x32, a⟩, ⟨S4096x32, b⟩, ⟨S4096x32, d⟩, ⟨S4096x32, e⟩]
    concatenates_S4096x32_S4096x32_S4096x32_S4096x32_S4096x128_d1

/-- The zero the host pads with. -/
def zero : FVec Ideal S_ .f32 := sitofp .f32 (constantI S_ 32 0#32)

/-- The integer zero converts to zero. -/
theorem cvt_zero : (FloatOps.sitofp FTy.f32 0#32 : Ideal .f32) = 0 := by
  show (((0#32 : BitVec 32).toInt : ℝ) : EReal) = 0
  simp

/-- The arrays the host code leaves, as its operations of the arguments. -/
theorem V_all :
    (V m c main_v8 = shapeCast S8192x2048 (ax m c) shapeCasts_S2x4096x2048_S8192x2048)
    ∧ (V m c main_v9 = shapeCast S1x2048 (ag m c) shapeCasts_S2048_S1x2048)
    ∧ (V m c main_v10 = shapeCast S2x1x2048 (ash m c) shapeCasts_S2x2048_S2x1x2048)
    ∧ (V m c main_v11 = shapeCast S2x1x2048 (asc m c) shapeCasts_S2x2048_S2x1x2048)
    ∧ (V m c main_v1 = truncf (F := Ideal) (φ := .f32) .bf16 (pad S2048x4736 ![0, 0] ![0, 96] ![0, 0] (aw m c) zero pads_S2048x4640_S2048x4736_000_0960 h_S_) bitsLt_bf16_f32)
    ∧ (V m c main_v3 = shapeCast S1x3456 (pad S3456 ![0] ![96] ![0] (amu m c) zero pads_S3360_S3456_0960 h_S_) shapeCasts_S3456_S1x3456)
    ∧ (V m c main_v4 = quad (aco m c) (aco m c) (aco m c) (aco m c))
    ∧ (V m c main_v7 = quad (Host.negf (F := Ideal) (φ := .f32) (asi m c)) (asi m c) (Host.negf (F := Ideal) (φ := .f32) (asi m c)) (asi m c)) := by
  refine ⟨?_, ?_, ?_, ?_, ?_, ?_, ?_, ?_⟩ <;>
  · show StableHlo.after (List.flatten [hostOps0, hostOps0_1, hostOps0_2, hostOps0_3, hostOps0_4]) _ _ = _
    simp only [List.flatten_cons, List.flatten_nil, List.append_nil, List.cons_append, List.nil_append,
      StableHlo.TRef.binary, StableHlo.TRef.unary, StableHlo.TRef.toBuf, StableHlo.TRef.ofBuf, cast_eq]
    after_results_simp <;> (try dsimp only [Matrix.cons_val]) <;> (try after_results_simp) <;> rfl

/-! The block indices of the windows. -/

theorem ix_0 : ∀ t : Fin grid0.N, win0_0.index t = ![t.val, 0] := by decide +kernel
theorem ix_1 : ∀ t : Fin grid0.N, win0_1.index t = ![0, 0] := by decide +kernel
theorem ix_2 : ∀ t : Fin grid0.N, win0_2.index t = ![t.val / 16, 0, 0] := by decide +kernel
theorem ix_3 : ∀ t : Fin grid0.N, win0_3.index t = ![t.val / 16, 0, 0] := by decide +kernel
theorem ix_4 : ∀ t : Fin grid0.N, win0_4.index t = ![0, 0] := by decide +kernel
theorem ix_5 : ∀ t : Fin grid0.N, win0_5.index t = ![0, 0] := by decide +kernel
theorem ix_6 : ∀ t : Fin grid0.N, win0_6.index t = ![t.val % 16, 0] := by decide +kernel
theorem ix_7 : ∀ t : Fin grid0.N, win0_7.index t = ![t.val % 16, 0] := by decide +kernel
theorem ix_8 : ∀ t : Fin grid0.N, win0_8.index t = ![t.val, 0] := by decide +kernel
theorem ix_9 : ∀ t : Fin grid0.N, win0_9.index t = ![t.val, 0] := by decide +kernel

/-! The blocks, as parts of the arguments: point `t` works on rows `256 n` to `256 n + 256` of sequence `b`. -/

section
variable (t : Fin cfg0.N) (b : Fin 2) (n : Fin 16) (hb : t.val / 16 = b.val) (hn : t.val % 16 = n.val)
include hb hn

/-- The rows. -/
theorem rd_0 (r : Fin 256) (k : Fin 2048) :
    iblk m c 0 t (ix2 r k) = ax m c (ix3 b ⟨n.val * 256 + r.val, by omega⟩ k) := by
  have e : iblk m c 0 t (ix2 r k) = V m c main_v8 (ix2 (⟨t.val * 256 + r.val, by have : t.val < 32 := t.isLt; omega⟩ : Fin 8192) k) := by
    blk_ext [iblk, ix_0 t]
  rw [e, (V_all m c).1]
  pointwise
  refine congrArg (ax m c) ?_
  have hp : (⟨(t.val * 256 + r.val) / 4096, by have : t.val < 32 := t.isLt; omega⟩ : Fin 2) = b := Fin.ext (by dsimp only; omega)
  have hq : (⟨(t.val * 256 + r.val) % 4096, Nat.mod_lt _ (by decide)⟩ : Fin 4096) = ⟨n.val * 256 + r.val, by omega⟩ :=
    Fin.ext (by dsimp only; omega)
  exact congrArg₂ (fun p q => ix3 p q k) hp hq

/-- The sequence's shifts. -/
theorem rd_2 (k : Fin 2048) : iblk m c 2 t (ix3 0 0 k) = ash m c (ix2 b k) := by
  have e : iblk m c 2 t (ix3 0 0 k) = V m c main_v10 (ix3 b (0 : Fin 1) k) := by
    blk_ext [iblk, ix_2 t]
  rw [e, (V_all m c).2.2.1]
  pointwise

/-- The sequence's scales. -/
theorem rd_3 (k : Fin 2048) : iblk m c 3 t (ix3 0 0 k) = asc m c (ix2 b k) := by
  have e : iblk m c 3 t (ix3 0 0 k) = V m c main_v11 (ix3 b (0 : Fin 1) k) := by
    blk_ext [iblk, ix_3 t]
  rw [e, (V_all m c).2.2.2.1]
  pointwise

/-- The cosines, four times over. -/
theorem rd_6 (r : Fin 256) (e : Fin 128) :
    iblk m c 6 t (ix2 r e) = aco m c (ix2 ⟨n.val * 256 + r.val, by omega⟩ ⟨e.val % 32, by omega⟩) := by
  have h : iblk m c 6 t (ix2 r e) = V m c main_v4 (ix2 (⟨n.val * 256 + r.val, by omega⟩ : Fin 4096) e) := by
    blk_ext [iblk, ix_6 t]
  rw [h, (V_all m c).2.2.2.2.2.2.1]
  pointwise [quad]
  split_ifs <;> exact congrArg (fun p => aco m c (ix2 _ p)) (Fin.ext (by dsimp only <;> omega))

/-- The sines, their sign turned in the first half of each head. -/
theorem rd_7 (r : Fin 256) (e : Fin 128) :
    iblk m c 7 t (ix2 r e) = if e.val % 64 < 32 then -asi m c (ix2 ⟨n.val * 256 + r.val, by omega⟩ ⟨e.val % 32, by omega⟩)
      else asi m c (ix2 ⟨n.val * 256 + r.val, by omega⟩ ⟨e.val % 32, by omega⟩) := by
  have h : iblk m c 7 t (ix2 r e) = V m c main_v7 (ix2 (⟨n.val * 256 + r.val, by omega⟩ : Fin 4096) e) := by
    blk_ext [iblk, ix_7 t]
  rw [h, (V_all m c).2.2.2.2.2.2.2]
  pointwise [quad]
  by_cases hs : e.val % 64 < 32
  · rw [if_pos hs]
    split_ifs <;> first
      | (exfalso; omega)
      | exact congrArg (fun p => -asi m c (ix2 _ p)) (Fin.ext (by dsimp only <;> omega))
  · rw [if_neg hs]
    split_ifs <;> first
      | (exfalso; omega)
      | exact congrArg (fun p => asi m c (ix2 _ p)) (Fin.ext (by dsimp only <;> omega))
end

/-- The gains. -/
theorem rd_1 (t : Fin cfg0.N) (k : Fin 2048) : iblk m c 1 t (ix2 0 k) = ag m c (ix1 k) := by
  have e : iblk m c 1 t (ix2 0 k) = V m c main_v9 (ix2 (0 : Fin 1) k) := by
    blk_ext [iblk, ix_1 t]
  rw [e, (V_all m c).2.1]
  pointwise

/-- The weights. -/
theorem rd_4 (t : Fin cfg0.N) (k : Fin 2048) (e : Fin 4736) : iblk m c 4 t (ix2 k e) = Inp.wide (aw m c) k e.val := by
  have h : iblk m c 4 t (ix2 k e) = V m c main_v1 (ix2 k e) := by
    blk_ext [iblk, ix_4 t]
  rw [h, (V_all m c).2.2.2.2.1]
  pointwise [zero]
  rw [cvt_zero]
  rfl

/-- The mixing weights. -/
theorem rd_5 (t : Fin cfg0.N) (e : Fin 3456) : iblk m c 5 t (ix2 0 e) = Inp.mix (amu m c) e.val := by
  have h : iblk m c 5 t (ix2 0 e) = V m c main_v3 (ix2 (0 : Fin 1) e) := by
    blk_ext [iblk, ix_5 t]
  rw [h, (V_all m c).2.2.2.2.2.1]
  pointwise [zero]
  rw [cvt_zero]
  rfl

end Cert.Kernel2Ideal.Proj
-- ==== Proof.InPay.lean ====
/-
  The payloads of one grid point of the input projection, at an index.
-/
module
public import proofs.«01_k».proof.Proof.InOut
public import proofs.«01_k».proof.Proof.InSpec
public import Idealize.ShloMosaic.PureOps.Ideal
public import Idealize.ShloMosaic.Lib.Pointwise
@[expose] public section
set_option maxRecDepth 16384
noncomputable section
namespace Cert.Kernel2Ideal.Proj
open Idealize.ShloMosaic.Tactic Cert.Kernel2Ideal Cert.Kernel2Ideal.Gen Idealize.ShloMosaic Idealize.ShloMosaic.TcCoe Idealize.SL.Sem

/-- The modulated rows at an index. -/
theorem pay1_apply (v0 : Vec Ideal S256x2048 .f32) (g : Vec Ideal S1x2048 .f32) (sc sh : Vec Ideal S1x1x2048 .f32)
    (r : Fin 256) (k : Fin 2048) :
    k0_pay1 (F := Ideal) v0 g sc sh (ix2 r k)
      = Inp.norm (fun j => v0 (ix2 r j)) (g (ix2 0 k)) (sc (ix3 0 0 k)) (sh (ix3 0 0 k)) k := by
  pointwise [k0_pay1]
  rfl

/-- A product's column. -/
def col {n : Nat} (h : FVec Ideal S256x2048 .bf16) (w : (⟨2, ![2048, n]⟩ : Shape).Idx → EReal) (r : Fin 256) (e : Fin n) : EReal :=
  ∑ k : Fin 2048, h (ix2 r k) * w (ix2 k e)

/-- A rotary table doubled, at an index. -/
theorem pay2_apply (a b : Vec Ideal S256x128 .f32) (r : Fin 256) (e : Fin 256) :
    k0_pay2 (F := Ideal) a b (ix2 r e) = if h : e.val < 128 then a (ix2 r ⟨e.val, h⟩) else b (ix2 r ⟨e.val - 128, by omega⟩) := by
  pointwise [k0_pay2]

/-- The kernel's test whether a lane lies in the first half of its head. -/
def lane (e : BitVec 32) : BitVec 1 :=
  let n : BitVec 32 := Scalar.select (Scalar.cmpi .eq 64#32 0#32) 1#32 64#32
  let v : BitVec 32 := IntOp.remsi ArithUnit.vector e n
  IntOp.cmpi .slt (Scalar.select (IntOp.andi (IntOp.xori (IntOp.cmpi .slt v 0#32) (Scalar.cmpi .slt n 0#32)) (IntOp.cmpi .ne v 0#32))
    (IntOp.addi v n) v) 32#32

/-- The test, decided. -/
theorem lane_eq : ∀ e : Fin 256, lane (BitVec.ofNat 32 e.val) = if e.val % 64 < 32 then 1#1 else 0#1 := by decide +kernel

/-- A select on the test. -/
theorem sel_lane (e : Fin 256) (a b : EReal) :
    Scalar.select (lane (BitVec.ofNat 32 e.val)) a b = if e.val % 64 < 32 then a else b := by
  rw [lane_eq]
  by_cases h : e.val % 64 < 32
  · rw [if_pos h, if_pos h]; rfl
  · rw [if_neg h, if_neg h]; rfl

/-- A piece of the query columns at an index. -/
theorem pay11_apply (h : FVec Ideal S256x2048 .bf16) (c s : FVec Ideal S256x256 .f32) (w : Vec Ideal S2048x256 .bf16)
    (r : Fin 256) (e : Fin 256) :
    k0_pay11 (F := Ideal) h c s w (ix2 r e) = col h w r e * c (ix2 r e)
      + (if e.val % 64 < 32 then col h w r ⟨(e.val + 256 - 224) % 256, by omega⟩ else col h w r ⟨(e.val + 256 - 32) % 256, by omega⟩) * s (ix2 r e) := by
  rw [← sel_lane e]
  pointwise [k0_pay11]
  rfl

/-- The piece of the keys and the values at an index. -/
theorem pay12_apply (h : FVec Ideal S256x2048 .bf16) (c s : Vec Ideal S256x128 .f32) (w : Vec Ideal S2048x256 .bf16)
    (r : Fin 256) (e : Fin 256) :
    k0_pay12 (F := Ideal) h w c s (ix2 r e) = if he : e.val < 128 then col h w r e * c (ix2 r ⟨e.val, he⟩)
      + (if e.val % 64 < 32 then col h w r ⟨(e.val + 128 - 96) % 128, by omega⟩ else col h w r ⟨(e.val + 128 - 32) % 128, by omega⟩)
          * s (ix2 r ⟨e.val, he⟩)
      else col h w r ⟨128 + (e.val - 128), by omega⟩ := by
  rw [← sel_lane e]
  pointwise [k0_pay12]
  rfl

/-- The row test, decided. -/
theorem row_eq : ∀ r : Fin 256, IntOp.cmpi CmpIPredicate.eq (BitVec.ofNat 32 r.val) 0#32 = if r.val = 0 then 1#1 else 0#1 := by
  decide +kernel

/-- A select on the row test. -/
theorem sel_row (r : Fin 256) (a b : EReal) :
    Scalar.select (IntOp.cmpi CmpIPredicate.eq (BitVec.ofNat 32 r.val) 0#32) a b = if r.val = 0 then a else b := by
  rw [row_eq]
  by_cases h : r.val = 0
  · rw [if_pos h, if_pos h]; rfl
  · rw [if_neg h, if_neg h]; rfl

/-- A projected row mixed with the row before it: row 0's is the carried one, or zero at the start of a sequence. -/
def mixed {n : Nat} (h : FVec Ideal S256x2048 .bf16) (b : BitVec 1) (w : (⟨2, ![2048, n]⟩ : Shape).Idx → EReal) (p mu : EReal)
    (r : Fin 256) (e : Fin n) : EReal :=
  col h w r e + ((if r.val = 0 then Scalar.select b 0 p else col h w ⟨(r.val + 256 - 1) % 256, by omega⟩ e) - col h w r e) * mu

/-- A piece of the recurrence's columns at an index. -/
theorem pay27_apply (h : FVec Ideal S256x2048 .bf16) (b : BitVec 1) (w : Vec Ideal S2048x512 .bf16) (p mu : Vec Ideal S1x512 .f32)
    (r : Fin 256) (e : Fin 512) :
    k0_pay27 (F := Ideal) h b rows w p mu (ix2 r e) = mixed h b w (p (ix2 0 e)) (mu (ix2 0 e)) r e := by
  unfold mixed
  rw [← sel_row r]
  pointwise [k0_pay27, k0_pay25, rows]
  rfl

/-- The last piece of the recurrence's columns at an index. -/
theorem pay39_apply (h : FVec Ideal S256x2048 .bf16) (b : BitVec 1) (w : Vec Ideal S2048x384 .bf16) (p mu : Vec Ideal S1x384 .f32)
    (r : Fin 256) (e : Fin 384) :
    k0_pay39 (F := Ideal) h b rows w p mu (ix2 r e) = mixed h b w (p (ix2 0 e)) (mu (ix2 0 e)) r e := by
  unfold mixed
  rw [← sel_row r]
  pointwise [k0_pay39, k0_pay37, rows]
  rfl

/-- A piece of the carried rows at an index. -/
theorem pay26_apply (h : FVec Ideal S256x2048 .bf16) (w : Vec Ideal S2048x512 .bf16) (a : Fin 8) (e : Fin 512) :
    k0_pay26 (F := Ideal) h w (ix2 a e) = col h w ⟨248 + a.val, by omega⟩ e := by
  pointwise [k0_pay26, k0_pay25]
  rfl

/-- The last piece of the carried rows at an index. -/
theorem pay38_apply (h : FVec Ideal S256x2048 .bf16) (w : Vec Ideal S2048x384 .bf16) (a : Fin 8) (e : Fin 384) :
    k0_pay38 (F := Ideal) h w (ix2 a e) = col h w ⟨248 + a.val, by omega⟩ e := by
  pointwise [k0_pay38, k0_pay37]
  rfl

end Cert.Kernel2Ideal.Proj
-- ==== Proof.InVal.lean ====
/-
  The blocks a grid point of the input projection leaves, at an index.
-/
module
public import proofs.«01_k».proof.Proof.InPay
public import proofs.«01_k».proof.Proof.InSpec
public import Idealize.ShloMosaic.Lib.Pipeline.ValueKit
@[expose] public section
set_option maxRecDepth 16384
noncomputable section
namespace Cert.Kernel2Ideal.Proj
open Idealize.ShloMosaic.Tactic Cert.Kernel2Ideal Cert.Kernel2Ideal.Gen Idealize.ShloMosaic Idealize.ShloMosaic.TcCoe Idealize.SL.Sem

section
variable (x1 : Vec Ideal S256x2048 .f32) (x2 : Vec Ideal S1x2048 .f32) (x3 x4 : Vec Ideal S1x1x2048 .f32) (x5 : Vec Ideal S2048x4736 .bf16)
  (x6 : Vec Ideal S1x3456 .f32) (x7 x8 : Vec Ideal S256x128 .f32) (xs : Vec Ideal S8x3456 .f32)

/-- The modulated rows at an index. -/
theorem hh_apply (r : Fin 256) (k : Fin 2048) :
    hh x1 x2 x3 x4 (ix2 r k) = Inp.norm (fun j => x1 (ix2 r j)) (x2 (ix2 0 k)) (x4 (ix3 0 0 k)) (x3 (ix3 0 0 k)) k := by
  unfold hh
  rw [pay1_apply]
  pointwise

/-- A projected column of the block. -/
def pz (r : Fin 256) (n : Nat) : EReal :=
  ∑ k : Fin 2048, hh x1 x2 x3 x4 (ix2 r k) * (if h : n < 4736 then x5 (ix2 k ⟨n, h⟩) else 0)

/-- The weights' pieces at an index. -/
theorem wa_apply (k : Fin 2048) (q : Fin 5) (e : Fin 256) : wa x5 q (ix2 k e) = x5 (ix2 k ⟨256 * q.val + e.val, by omega⟩) := by
  pointwise [wa]

/-- The weights' pieces of the recurrence at an index. -/
theorem wr_apply (k : Fin 2048) (q : Fin 6) (e : Fin 512) : wr x5 q (ix2 k e) = x5 (ix2 k ⟨1280 + 512 * q.val + e.val, by omega⟩) := by
  pointwise [wr]

/-- The last of them. -/
theorem wl_apply (k : Fin 2048) (e : Fin 384) : wl x5 (ix2 k e) = x5 (ix2 k ⟨4352 + e.val, by omega⟩) := by
  pointwise [wl]

/-- A piece's column is the block's. -/
theorem col_eq {n : Nat} (w : (⟨2, ![2048, n]⟩ : Shape).Idx → EReal) (r : Fin 256) (e : Fin n) (p : Nat) (hp : p < 4736)
    (hw : ∀ k, w (ix2 k e) = x5 (ix2 k ⟨p, hp⟩)) : col (hh x1 x2 x3 x4) w r e = pz x1 x2 x3 x4 x5 r p := by
  unfold col pz
  refine Finset.sum_congr rfl fun k _ => ?_
  rw [hw, dif_pos hp]

/-- A column of piece `q` of the attention's weights. -/
theorem col_wa (r : Fin 256) (q : Fin 5) (e : Fin 256) (p : Nat) (hp : p = 256 * q.val + e.val) :
    col (hh x1 x2 x3 x4) (wa x5 q) r e = pz x1 x2 x3 x4 x5 r p := by
  subst hp
  exact col_eq x1 x2 x3 x4 x5 _ r e _ (by omega) fun k => wa_apply x5 k q e

/-- A column of piece `q` of the recurrence's weights. -/
theorem col_wr (r : Fin 256) (q : Fin 6) (e : Fin 512) (p : Nat) (hp : p = 1280 + (512 * q.val + e.val)) :
    col (hh x1 x2 x3 x4) (wr x5 q) r e = pz x1 x2 x3 x4 x5 r p := by
  refine col_eq x1 x2 x3 x4 x5 _ r e p (by omega) fun k => (wr_apply x5 k q e).trans ?_
  exact congrArg (fun i => x5 (ix2 k i)) (Fin.ext (by dsimp only; omega))

/-- A column of their last piece. -/
theorem col_wl (r : Fin 256) (e : Fin 384) (p : Nat) (hp : p = 1280 + (3072 + e.val)) :
    col (hh x1 x2 x3 x4) (wl x5) r e = pz x1 x2 x3 x4 x5 r p := by
  refine col_eq x1 x2 x3 x4 x5 _ r e p (by omega) fun k => (wl_apply x5 k e).trans ?_
  exact congrArg (fun i => x5 (ix2 k i)) (Fin.ext (by dsimp only; omega))

/-- The attention block at an index: 128 lanes of tables, repeated. -/
def zaG (r : Fin 256) (e : Nat) : EReal :=
  if e < 1152 then pz x1 x2 x3 x4 x5 r e * x7 (ix2 r ⟨e % 128, Nat.mod_lt _ (by decide)⟩)
    + (if e % 64 < 32 then pz x1 x2 x3 x4 x5 r (e + 32) else pz x1 x2 x3 x4 x5 r (e - 32)) * x8 (ix2 r ⟨e % 128, Nat.mod_lt _ (by decide)⟩)
  else pz x1 x2 x3 x4 x5 r e

/-- A table as staged. -/
theorem tb_apply (x : Vec Ideal S256x128 .f32) (r : Fin 256) (e : Fin 128) : tb x (ix2 r e) = x (ix2 r e) := by
  pointwise [tb]

/-- A rotary table, doubled. -/
theorem tb2_apply (x : Vec Ideal S256x128 .f32) (r : Fin 256) (e : Fin 256) :
    k0_pay2 (tb x) (tb x) (ix2 r e) = x (ix2 r ⟨e.val % 128, by omega⟩) := by
  rw [pay2_apply]
  split_ifs <;> rw [tb_apply] <;> exact congrArg (fun i => x (ix2 r i)) (Fin.ext (by dsimp only; omega))

/-- A piece of the query columns. -/
theorem q_piece (k : Fin 5) (hk : k.val < 4) (r e : Fin 256) :
    k0_pay11 (hh x1 x2 x3 x4) (k0_pay2 (tb x7) (tb x7)) (k0_pay3 (tb x8) (tb x8)) (wa x5 k) (ix2 r e)
      = zaG x1 x2 x3 x4 x5 x7 x8 r (256 * k.val + e.val) := by
  have e3 : k0_pay3 (F := Ideal) (tb x8) (tb x8) = k0_pay2 (tb x8) (tb x8) := rfl
  rw [pay11_apply, e3, tb2_apply, tb2_apply]
  unfold zaG
  rw [if_pos (show 256 * k.val + e.val < 1152 by omega), col_wa x1 x2 x3 x4 x5 r k e _ rfl]
  have hm : (⟨(256 * k.val + e.val) % 128, Nat.mod_lt _ (by decide)⟩ : Fin 128) = ⟨e.val % 128, by omega⟩ := Fin.ext (by dsimp only; omega)
  rw [hm]
  by_cases h : e.val % 64 < 32
  · rw [if_pos h, if_pos (show (256 * k.val + e.val) % 64 < 32 by omega), col_wa x1 x2 x3 x4 x5 r k _ (256 * k.val + e.val + 32) (by dsimp only; omega)]
  · rw [if_neg h, if_neg (show ¬(256 * k.val + e.val) % 64 < 32 by omega), col_wa x1 x2 x3 x4 x5 r k _ (256 * k.val + e.val - 32) (by dsimp only; omega)]

/-- The piece of the keys and the values. -/
theorem kv_piece (r e : Fin 256) :
    k0_pay12 (hh x1 x2 x3 x4) (wa x5 4) (tb x7) (tb x8) (ix2 r e) = zaG x1 x2 x3 x4 x5 x7 x8 r (1024 + e.val) := by
  rw [pay12_apply]
  unfold zaG
  by_cases he : e.val < 128
  · rw [dif_pos he, if_pos (show 1024 + e.val < 1152 by omega), tb_apply, tb_apply, col_wa x1 x2 x3 x4 x5 r 4 e (1024 + e.val) rfl]
    have hm : (⟨(1024 + e.val) % 128, Nat.mod_lt _ (by decide)⟩ : Fin 128) = ⟨e.val, he⟩ := Fin.ext (by dsimp only; omega)
    rw [hm]
    by_cases h : e.val % 64 < 32
    · rw [if_pos h, if_pos (show (1024 + e.val) % 64 < 32 by omega), col_wa x1 x2 x3 x4 x5 r 4 _ (1024 + e.val + 32) (by show _ = 256 * 4 + _; dsimp only; omega)]
    · rw [if_neg h, if_neg (show ¬(1024 + e.val) % 64 < 32 by omega), col_wa x1 x2 x3 x4 x5 r 4 _ (1024 + e.val - 32) (by show _ = 256 * 4 + _; dsimp only; omega)]
  · rw [dif_neg he, if_neg (by omega)]
    exact col_wa x1 x2 x3 x4 x5 r 4 _ _ (by show _ = 256 * 4 + (128 + (e.val - 128)); omega)

/-- The attention block is that function. -/
theorem za_apply (y : S256x1280.Idx) : za x1 x2 x3 x4 x5 x7 x8 y = zaG x1 x2 x3 x4 x5 x7 x8 (y 0) (y 1).val := by
  unfold za
  have key : ∀ (z : S256x1280.Idx) (r : Fin 256) (p n : Nat), (z 0).val = 0 + 1 * r.val → (z 1).val = p + 1 * n →
      zaG x1 x2 x3 x4 x5 x7 x8 r (p + n) = zaG x1 x2 x3 x4 x5 x7 x8 (z 0) (z 1).val := by
    intro z r p n h0 h1
    exact congrArg₂ (zaG x1 x2 x3 x4 x5 x7 x8) (Fin.ext (by omega)) (by omega)
  refine View.canon_apply_of_pieces (S := S256x1280) (e := .bf16) (Val := Elt Ideal) (fun y => zaG x1 x2 x3 x4 x5 x7 x8 (y 0) (y 1).val) _ ?_ y
    (cover_za x1 x2 x3 x4 x5 x7 x8 y)
  have hq : ∀ (k : Fin 5) (hk : k.val < 4) (x : (qc x1 x2 x3 x4 x5 x7 x8 k).1.shape.Idx), (qc x1 x2 x3 x4 x5 x7 x8 k).2 x
      = zaG x1 x2 x3 x4 x5 x7 x8 ((qc x1 x2 x3 x4 x5 x7 x8 k).1.emb x 0) ((qc x1 x2 x3 x4 x5 x7 x8 k).1.emb x 1).val := by
    intro k hk x
    obtain ⟨r, e, rfl⟩ : ∃ (r e : Fin 256), x = ix2 r e := ⟨x 0, x 1, by blk_ext⟩
    exact (q_piece x1 x2 x3 x4 x5 x7 x8 k hk r e).trans (key _ r _ e.val rfl rfl)
  intro p hp
  simp only [Lza, List.mem_cons, List.not_mem_nil, or_false] at hp
  rcases hp with rfl | rfl | rfl | rfl | rfl
  · intro x
    obtain ⟨r, e, rfl⟩ : ∃ (r e : Fin 256), x = ix2 r e := ⟨x 0, x 1, by blk_ext⟩
    exact (kv_piece x1 x2 x3 x4 x5 x7 x8 r e).trans (key _ r _ e.val rfl rfl)
  · exact hq 3 (by decide)
  · exact hq 2 (by decide)
  · exact hq 1 (by decide)
  · exact hq 0 (by decide)

/-- The recurrence's block at an index: row 0 is mixed with the carried row. -/
def zrG (b : BitVec 1) (r : Fin 256) (j : Fin 3456) : EReal :=
  pz x1 x2 x3 x4 x5 r (1280 + j.val) + ((if r.val = 0 then Scalar.select b 0 (xs (ix2 7 j))
    else pz x1 x2 x3 x4 x5 ⟨(r.val + 256 - 1) % 256, by omega⟩ (1280 + j.val)) - pz x1 x2 x3 x4 x5 r (1280 + j.val)) * x6 (ix2 0 j)

/-- A piece's mixed column is the block's. -/
theorem mixed_eq {n : Nat} (b : BitVec 1) (w : (⟨2, ![2048, n]⟩ : Shape).Idx → EReal) (p mu : EReal) (r : Fin 256) (e : Fin n)
    (j : Fin 3456) (hw : ∀ r, col (hh x1 x2 x3 x4) w r e = pz x1 x2 x3 x4 x5 r (1280 + j.val)) (hp : p = xs (ix2 7 j)) (hm : mu = x6 (ix2 0 j)) :
    mixed (hh x1 x2 x3 x4) b w p mu r e = zrG x1 x2 x3 x4 x5 x6 xs b r j := by
  subst hp hm
  unfold mixed zrG
  simp only [hw]

/-- A piece of the recurrence's columns. -/
theorem r_piece (b : BitVec 1) (k : Fin 6) (r : Fin 256) (e : Fin 512) :
    (rc x1 x2 x3 x4 x5 x6 xs b k).2 (ix2 r e) = zrG x1 x2 x3 x4 x5 x6 xs b r ⟨512 * k.val + e.val, by omega⟩ := by
  refine (pay27_apply _ b _ _ _ r e).trans (mixed_eq x1 x2 x3 x4 x5 x6 xs b _ _ _ r e _
    (fun r => col_wr x1 x2 x3 x4 x5 r k e _ rfl) ?_ ?_)
  · pointwise
  · pointwise

/-- The last piece of the recurrence's columns. -/
theorem l_piece (b : BitVec 1) (r : Fin 256) (e : Fin 384) :
    (rl x1 x2 x3 x4 x5 x6 xs b).2 (ix2 r e) = zrG x1 x2 x3 x4 x5 x6 xs b r ⟨3072 + e.val, by omega⟩ := by
  refine (pay39_apply _ b _ _ _ r e).trans (mixed_eq x1 x2 x3 x4 x5 x6 xs b _ _ _ r e _
    (fun r => col_wl x1 x2 x3 x4 x5 r e _ rfl) ?_ ?_)
  · pointwise
  · pointwise

/-- The recurrence's block is that function. -/
theorem zr_apply (i : grid0.Coords) (y : S256x3456.Idx) :
    zr i x1 x2 x3 x4 x5 x6 xs y = zrG x1 x2 x3 x4 x5 x6 xs (first i) (y 0) (y 1) := by
  unfold zr
  generalize first i = b
  have key : ∀ (z : S256x3456.Idx) (r : Fin 256) (p n : Nat) (h : p + n < 3456), (z 0).val = 0 + 1 * r.val → (z 1).val = p + 1 * n →
      zrG x1 x2 x3 x4 x5 x6 xs b r ⟨p + n, h⟩ = zrG x1 x2 x3 x4 x5 x6 xs b (z 0) (z 1) := by
    intro z r p n h h0 h1
    exact congrArg₂ (zrG x1 x2 x3 x4 x5 x6 xs b) (Fin.ext (by omega)) (Fin.ext (by dsimp only; omega))
  refine View.canon_apply_of_pieces (S := S256x3456) (e := .f32) (Val := Elt Ideal) (fun y => zrG x1 x2 x3 x4 x5 x6 xs b (y 0) (y 1)) _ ?_ y
    (cover_zr x1 x2 x3 x4 x5 x6 xs b y)
  have hq : ∀ (k : Fin 6) (x : (rc x1 x2 x3 x4 x5 x6 xs b k).1.shape.Idx), (rc x1 x2 x3 x4 x5 x6 xs b k).2 x
      = zrG x1 x2 x3 x4 x5 x6 xs b ((rc x1 x2 x3 x4 x5 x6 xs b k).1.emb x 0) ((rc x1 x2 x3 x4 x5 x6 xs b k).1.emb x 1) := by
    intro k x
    obtain ⟨r, e, rfl⟩ : ∃ (r : Fin 256) (e : Fin 512), x = ix2 r e := ⟨x 0, x 1, by blk_ext⟩
    exact (r_piece x1 x2 x3 x4 x5 x6 xs b k r e).trans (key _ r _ e.val _ rfl rfl)
  intro p hp
  simp only [Lzr, List.mem_cons, List.not_mem_nil, or_false] at hp
  rcases hp with rfl | rfl | rfl | rfl | rfl | rfl | rfl
  · intro x
    obtain ⟨r, e, rfl⟩ : ∃ (r : Fin 256) (e : Fin 384), x = ix2 r e := ⟨x 0, x 1, by blk_ext⟩
    exact (l_piece x1 x2 x3 x4 x5 x6 xs b r e).trans (key _ r _ e.val _ rfl rfl)
  · exact hq 5
  · exact hq 4
  · exact hq 3
  · exact hq 2
  · exact hq 1
  · exact hq 0

/-- The carried rows at an index: the last eight projected rows. -/
theorem cr_apply (y : S8x3456.Idx) :
    cr x1 x2 x3 x4 x5 y = pz x1 x2 x3 x4 x5 ⟨248 + (y 0).val, by have : (y 0).val < 8 := (y 0).isLt; omega⟩ (1280 + (y 1).val) := by
  unfold cr
  let G : S8x3456.Idx → EReal := fun y =>
    pz x1 x2 x3 x4 x5 ⟨248 + (y 0).val, by have : (y 0).val < 8 := (y 0).isLt; omega⟩ (1280 + (y 1).val)
  have key : ∀ (z : S8x3456.Idx) (a : Fin 8) (p n : Nat), (z 0).val = 0 + 1 * a.val → (z 1).val = p + 1 * n →
      pz x1 x2 x3 x4 x5 ⟨248 + a.val, by omega⟩ (1280 + (p + n)) = G z := by
    intro z a p n h0 h1
    exact congrArg₂ (pz x1 x2 x3 x4 x5) (Fin.ext (by dsimp only; omega)) (by omega)
  refine View.canon_apply_of_pieces (S := S8x3456) (e := .f32) (Val := Elt Ideal) G _ ?_ y (cover_cr x1 x2 x3 x4 x5 y)
  have hq : ∀ (k : Fin 6) (x : (cc x1 x2 x3 x4 x5 k).1.shape.Idx), (cc x1 x2 x3 x4 x5 k).2 x = G ((cc x1 x2 x3 x4 x5 k).1.emb x) := by
    intro k x
    obtain ⟨a, e, rfl⟩ : ∃ (a : Fin 8) (e : Fin 512), x = ix2 a e := ⟨x 0, x 1, by blk_ext⟩
    exact (pay26_apply _ _ a e).trans ((col_wr x1 x2 x3 x4 x5 _ k e _ rfl).trans (key _ a _ e.val rfl rfl))
  intro p hp
  simp only [Lcr, List.mem_cons, List.not_mem_nil, or_false] at hp
  rcases hp with rfl | rfl | rfl | rfl | rfl | rfl | rfl
  · intro x
    obtain ⟨a, e, rfl⟩ : ∃ (a : Fin 8) (e : Fin 384), x = ix2 a e := ⟨x 0, x 1, by blk_ext⟩
    exact (pay38_apply _ _ a e).trans ((col_wl x1 x2 x3 x4 x5 _ e _ rfl).trans (key _ a _ e.val rfl rfl))
  · exact hq 5
  · exact hq 4
  · exact hq 3
  · exact hq 2
  · exact hq 1
  · exact hq 0

end
end Cert.Kernel2Ideal.Proj
-- ==== Proof.InFinal.lean ====
/-
  The input projection's two result arrays after the run: the shared projection of the arguments.
-/
module
public import proofs.«01_k».proof.Proof.InHost
public import proofs.«01_k».proof.Proof.InVal
public import proofs.«01_k».proof.Defs
@[expose] public section
set_option maxRecDepth 16384
noncomputable section
namespace Cert.Kernel2Ideal.Proj
open Idealize.ShloMosaic.Tactic Cert.Kernel2Ideal Cert.Kernel2Ideal.Gen Idealize.ShloMosaic Idealize.ShloMosaic.TcCoe Idealize.SL.Sem

variable (m : (ℓ : Loc nD τ sig) → Buf (Elt Ideal) ℓ) (c : Dev nD)

/-- A projected column of the arguments. -/
abbrev zz (b : Fin 2) (t : Fin 4096) (n : Nat) : EReal := Inp.Z (ax m c) (ag m c) (ash m c) (asc m c) (aw m c) b t n

/-- Whether a point is the first of its sequence. -/
theorem first_eq : ∀ t : Fin grid0.N, first (grid0.coords t) = if t.val % 16 = 0 then 1#1 else 0#1 := by decide +kernel

/-- A selection by the true bit. -/
theorem sel_one (a b : EReal) : Scalar.select 1#1 a b = a := rfl

/-- A selection by the false bit. -/
theorem sel_zero (a b : EReal) : Scalar.select 0#1 a b = b := rfl

section
variable (t : Fin cfg0.N) (b : Fin 2) (n : Fin 16) (hb : t.val / 16 = b.val) (hn : t.val % 16 = n.val)
include hb hn

/-- A projected column of the point's block. -/
theorem pz_eq (r : Fin 256) (p : Nat) :
    pz (iblk m c 0 t) (iblk m c 1 t) (iblk m c 2 t) (iblk m c 3 t) (iblk m c 4 t) r p
      = zz m c b ⟨n.val * 256 + r.val, by omega⟩ p := by
  unfold pz zz Inp.Z
  refine Finset.sum_congr rfl fun k _ => congrArg₂ (· * ·) ?_ ?_
  · refine (hh_apply _ _ _ _ r k).trans ?_
    unfold Inp.row
    rw [rd_1 m c t k, rd_2 m c t b n hb hn k, rd_3 m c t b n hb hn k]
    exact congrArg (fun v => Inp.norm v _ _ _ k) (funext fun j => rd_0 m c t b n hb hn r j)
  · by_cases h : p < 4736
    · rw [dif_pos h]
      exact rd_4 m c t k ⟨p, h⟩
    · unfold Inp.wide
      rw [dif_neg h, dif_neg (by omega)]

/-- The point's attention columns. -/
theorem za_point (r : Fin 256) (e : Nat) :
    zaG (iblk m c 0 t) (iblk m c 1 t) (iblk m c 2 t) (iblk m c 3 t) (iblk m c 4 t) (iblk m c 6 t) (iblk m c 7 t) r e
      = Inp.za (ax m c) (ag m c) (ash m c) (asc m c) (aw m c) (aco m c) (asi m c) b ⟨n.val * 256 + r.val, by omega⟩ e := by
  unfold zaG Inp.za
  by_cases h : e < 1152
  · rw [if_pos h, if_pos h]
    unfold Inp.rot
    simp only [pz_eq m c t b n hb hn]
    have e1 : (⟨e % 128 % 32, by omega⟩ : Fin 32) = ⟨e % 32, by omega⟩ := Fin.ext (by dsimp only; omega)
    have e2 : (e % 128 % 64 < 32) = (e % 64 < 32) := by
      rw [Nat.mod_mod_of_dvd e (by decide : 64 ∣ 128)]
    refine congrArg₂ (· + ·) (congrArg₂ (· * ·) rfl ?_) ?_
    · refine (rd_6 m c t b n hb hn r _).trans ?_
      exact congrArg (fun q => aco m c (ix2 _ q)) e1
    · have s := rd_7 m c t b n hb hn r (⟨e % 128, Nat.mod_lt _ (by decide)⟩ : Fin 128)
      dsimp only at s
      rw [e1] at s
      by_cases hq : e % 64 < 32
      · rw [if_pos (e2.symm ▸ hq)] at s
        rw [if_pos hq, if_pos hq]
        exact congrArg₂ (· * ·) rfl s
      · rw [if_neg (e2.symm ▸ hq)] at s
        rw [if_neg hq, if_neg hq]
        exact congrArg₂ (· * ·) rfl s
  · rw [if_neg h, if_neg h]
    exact pz_eq m c t b n hb hn r e

/-- The carried row a point that is not the first of its sequence finds: the projected row before its own first. -/
theorem xs_eq (h : n.val ≠ 0) (j : Fin 3456) :
    crAt m c (t.val - 1) (ix2 7 j) = zz m c b ⟨n.val * 256 - 1, by omega⟩ (1280 + j.val) := by
  have hN : t.val < 32 := t.isLt
  have hs : t.val - 1 < cfg0.N := by
    have : cfg0.N = 32 := N_0
    omega
  have e := crAt_val m c ⟨t.val - 1, hs⟩
  dsimp only at e
  rw [e]
  refine (cr_apply _ _ _ _ _ (ix2 7 j)).trans ?_
  refine (pz_eq m c ⟨t.val - 1, hs⟩ b ⟨n.val - 1, by omega⟩ (by dsimp only; omega) (by dsimp only; omega) _ _).trans ?_
  refine congrArg (fun q => zz m c b q (1280 + j.val)) (Fin.ext ?_)
  show (n.val - 1) * 256 + (248 + 7) = n.val * 256 - 1
  omega

/-- The point's columns of the recurrence. -/
theorem zr_point (r : Fin 256) (j : Fin 3456) :
    zrG (iblk m c 0 t) (iblk m c 1 t) (iblk m c 2 t) (iblk m c 3 t) (iblk m c 4 t) (iblk m c 5 t) (crAt m c (t.val - 1))
        (first (grid0.coords t)) r j
      = Inp.zr (ax m c) (ag m c) (ash m c) (asc m c) (aw m c) (amu m c) b ⟨n.val * 256 + r.val, by omega⟩ j.val := by
  unfold zrG Inp.zr
  simp only [pz_eq m c t b n hb hn]
  refine congrArg₂ (· + ·) rfl (congrArg₂ (· * ·) (congrArg₂ (· - ·) ?_ rfl) (rd_5 m c t j))
  have f := first_eq t
  rw [hn] at f
  by_cases hr : r.val = 0
  · rw [if_pos hr, f]
    by_cases h0 : n.val = 0
    · rw [if_pos h0, if_pos (show n.val * 256 + r.val = 0 by omega)]
      exact sel_one _ _
    · rw [if_neg h0, if_neg (show ¬ n.val * 256 + r.val = 0 by omega)]
      refine (sel_zero _ _).trans ?_
      refine (xs_eq m c t b n hb hn h0 j).trans ?_
      exact congrArg (fun q => zz m c b q (1280 + j.val)) (Fin.ext (by dsimp only; omega))
  · rw [if_neg hr, if_neg (show ¬ n.val * 256 + r.val = 0 by omega)]
    exact congrArg (fun q => zz m c b q (1280 + j.val)) (Fin.ext (by dsimp only; omega))

end

/-- What the attention columns' array ends holding. -/
def Ga : S8192x1280.Idx → EReal := Inp.arrA (ax m c) (ag m c) (ash m c) (asc m c) (aw m c) (aco m c) (asi m c)

/-- What the recurrence's columns' array ends holding. -/
def Gr : S8192x3456.Idx → EReal := Inp.arrR (ax m c) (ag m c) (ash m c) (asc m c) (aw m c) (amu m c)

/-- The attention columns' array after the run. -/
theorem final8 : (dats m 0 c).arrAt 8 cfg0.N = Ga m c := by
  refine (dats m 0 c).arrAt_eq_of_covers 8 _ (by decide +kernel) fun t hf y => ?_
  blk_simp
  rw [after8]
  have hN : t.val < 32 := t.isLt
  obtain ⟨r, hr⟩ : ∃ r : Fin 256, r.val = (y 0).val := ⟨⟨_, (y 0).isLt⟩, rfl⟩
  obtain ⟨e, he⟩ : ∃ e : Fin 1280, e.val = (y 1).val := ⟨⟨_, (y 1).isLt⟩, rfl⟩
  obtain ⟨b, hb⟩ : ∃ b : Fin 2, t.val / 16 = b.val := ⟨⟨t.val / 16, by omega⟩, rfl⟩
  obtain ⟨n, hn⟩ : ∃ n : Fin 16, t.val % 16 = n.val := ⟨⟨t.val % 16, by omega⟩, rfl⟩
  have ey : y = ix2 r e := by
    blk_ext
  have em : (win0_8.blk t).view.emb y = ix2 (⟨t.val * 256 + r.val, by omega⟩ : Fin 8192) e := by
    blk_ext [ix_8 t]
  rw [em]
  refine Eq.trans (congrArg _ ey) ((za_apply _ _ _ _ _ _ _ (ix2 r e)).trans ((za_point m c t b n hb hn r e.val).trans ?_))
  unfold Ga Inp.arrA
  dsimp only
  refine congrArg₂ (fun p q => Inp.za (ax m c) (ag m c) (ash m c) (asc m c) (aw m c) (aco m c) (asi m c) p q e.val)
    (Fin.ext ?_) (Fin.ext ?_)
  · show b.val = (t.val * 256 + r.val) / 4096
    omega
  · show n.val * 256 + r.val = (t.val * 256 + r.val) % 4096
    omega

/-- The recurrence's columns' array after the run. -/
theorem final9 : (dats m 0 c).arrAt 9 cfg0.N = Gr m c := by
  refine (dats m 0 c).arrAt_eq_of_covers 9 _ (by decide +kernel) fun t hf y => ?_
  blk_simp
  rw [after9]
  have hN : t.val < 32 := t.isLt
  obtain ⟨r, hr⟩ : ∃ r : Fin 256, r.val = (y 0).val := ⟨⟨_, (y 0).isLt⟩, rfl⟩
  obtain ⟨e, he⟩ : ∃ e : Fin 3456, e.val = (y 1).val := ⟨⟨_, (y 1).isLt⟩, rfl⟩
  obtain ⟨b, hb⟩ : ∃ b : Fin 2, t.val / 16 = b.val := ⟨⟨t.val / 16, by omega⟩, rfl⟩
  obtain ⟨n, hn⟩ : ∃ n : Fin 16, t.val % 16 = n.val := ⟨⟨t.val % 16, by omega⟩, rfl⟩
  have ey : y = ix2 r e := by
    blk_ext
  have em : (win0_9.blk t).view.emb y = ix2 (⟨t.val * 256 + r.val, by omega⟩ : Fin 8192) e := by
    blk_ext [ix_9 t]
  rw [em]
  refine Eq.trans (congrArg _ ey) ((zr_apply _ _ _ _ _ _ _ _ (ix2 r e)).trans ((zr_point m c t b n hb hn r e).trans ?_))
  unfold Gr Inp.arrR
  dsimp only
  refine congrArg₂ (fun p q => Inp.zr (ax m c) (ag m c) (ash m c) (asc m c) (aw m c) (amu m c) p q e.val)
    (Fin.ext ?_) (Fin.ext ?_)
  · show b.val = (t.val * 256 + r.val) / 4096
    omega
  · show n.val * 256 + r.val = (t.val * 256 + r.val) % 4096
    omega

/-- The run: both arrays at their values, and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v12_0) = Ga m c
      ∧ r.2.mem ((c.tc : Thread nD τ).loc main_v12_1) = Gr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 8).trans (final8 m c), ((h.1.1 c).1 9).trans (final9 m c), h.2.1 c⟩)
    (θ_run_and (launched m ρ) (frame m ρ))

end Cert.Kernel2Ideal.Proj
-- ==== Proof.InRef.lean ====
/-
  The reference of the input projection at an index.
-/
module
public import proofs.«01_k».proof.Proof.InSpec
public import proofs.«01_k».proof.Proof.Gen.Reference2Ideal.Run
public import Idealize.ShloMosaic.Lib.Pointwise
@[expose] public section
set_option maxRecDepth 16384
noncomputable section
namespace Cert.Reference2Ideal.Proj
open Idealize.ShloMosaic.Tactic Cert.Reference2Ideal Cert.Reference2Ideal.Gen Idealize.ShloMosaic Idealize.ShloMosaic.TcCoe Idealize.SL.Sem

/-! The reference in stages, each a function of the stages before it. -/

/-- The rows' sums of squares. -/
def msV (x : FVec Ideal S2x4096x2048 .f32) : FVec Ideal S2x4096 .f32 :=
  Host.reduceAdd (mulf x x) (constant S_ .f32 0x00000000#32) reducesTo_S2x4096x2048_S2x4096_d2 h_S_

/-- The modulated rows. -/
def hV (x : FVec Ideal S2x4096x2048 .f32) (R : FVec Ideal S2x4096 .f32) (g : FVec Ideal S2048 .f32) (sh sc : FVec Ideal S2x2048 .f32) :
    FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 R) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc)))) (broadcastInDim S2x4096x2048 ![0, 1, 2] bcast_S2x1x2048_S2x4096x2048_0_1_2 (broadcastInDim S2x1x2048 ![0, 2] bcast_S2x2048_S2x1x2048_0_2 sh))

/-- The projected rows. -/
def zV (h : FVec Ideal S2x4096x2048 .f32) (w : FVec Ideal S2048x4640 .f32) : FVec Ideal S2x4096x4640 .f32 :=
  Host.dotGeneral dot_S2x4096x2048_S2048x4640_S2x4096x4640_2_0_01_1_n_n none h w

/-- The query columns. -/
def qV (Z : FVec Ideal S2x4096x4640 .f32) : FVec Ideal S2x4096x16x64 .f32 :=
  shapeCast S2x4096x16x64 (extractStridedSlice S2x4096x1024 ![0, 0, 0] (extractStridedSlice S2x4096x1280 ![0, 0, 0] Z slices_S2x4096x4640_S2x4096x1280_0_0_0) slices_S2x4096x1280_S2x4096x1024_0_0_0) shapeCasts_S2x4096x1024_S2x4096x16x64

/-- The key columns. -/
def kV (Z : FVec Ideal S2x4096x4640 .f32) : FVec Ideal S2x4096x2x64 .f32 :=
  shapeCast S2x4096x2x64 (extractStridedSlice S2x4096x128 ![0, 0, 1024] (extractStridedSlice S2x4096x1280 ![0, 0, 0] Z slices_S2x4096x4640_S2x4096x1280_0_0_0) slices_S2x4096x1280_S2x4096x128_0_0_1024) shapeCasts_S2x4096x128_S2x4096x2x64

/-- The value columns. -/
def vV (Z : FVec Ideal S2x4096x4640 .f32) : FVec Ideal S2x4096x128 .f32 :=
  extractStridedSlice S2x4096x128 ![0, 0, 1152] (extractStridedSlice S2x4096x1280 ![0, 0, 0] Z slices_S2x4096x4640_S2x4096x1280_0_0_0) slices_S2x4096x1280_S2x4096x128_0_0_1152

/-- The queries with their rotary position. -/
def rq (q : FVec Ideal S2x4096x16x64 .f32) (co si : FVec Ideal S4096x32 .f32) : FVec Ideal S2x4096x1024 .f32 :=
  shapeCast S2x4096x1024 (concatenate S2x4096x16x64 3 [⟨S2x4096x16x32, (subf (mulf (extractStridedSlice S2x4096x16x32 ![0, 0, 0, 0] q slices_S2x4096x16x64_S2x4096x16x32_0_0_0_0) (broadcastInDim S2x4096x16x32 ![0, 1, 2, 3] bcast_S1x4096x1x32_S2x4096x16x32_0_1_2_3 (broadcastInDim S1x4096x1x32 ![1, 3] bcast_S4096x32_S1x4096x1x32_1_3 co))) (mulf (extractStridedSlice S2x4096x16x32 ![0, 0, 0, 32] q slices_S2x4096x16x64_S2x4096x16x32_0_0_0_32) (broadcastInDim S2x4096x16x32 ![0, 1, 2, 3] bcast_S1x4096x1x32_S2x4096x16x32_0_1_2_3 (broadcastInDim S1x4096x1x32 ![1, 3] bcast_S4096x32_S1x4096x1x32_1_3 si))))⟩, ⟨S2x4096x16x32, (addf (mulf (extractStridedSlice S2x4096x16x32 ![0, 0, 0, 32] q slices_S2x4096x16x64_S2x4096x16x32_0_0_0_32) (broadcastInDim S2x4096x16x32 ![0, 1, 2, 3] bcast_S1x4096x1x32_S2x4096x16x32_0_1_2_3 (broadcastInDim S1x4096x1x32 ![1, 3] bcast_S4096x32_S1x4096x1x32_1_3 co))) (mulf (extractStridedSlice S2x4096x16x32 ![0, 0, 0, 0] q slices_S2x4096x16x64_S2x4096x16x32_0_0_0_0) (broadcastInDim S2x4096x16x32 ![0, 1, 2, 3] bcast_S1x4096x1x32_S2x4096x16x32_0_1_2_3 (broadcastInDim S1x4096x1x32 ![1, 3] bcast_S4096x32_S1x4096x1x32_1_3 si))))⟩] concatenates_S2x4096x16x32_S2x4096x16x32_S2x4096x16x64_d3) shapeCasts_S2x4096x16x64_S2x4096x1024

/-- The keys with theirs. -/
def rk (k : FVec Ideal S2x4096x2x64 .f32) (co si : FVec Ideal S4096x32 .f32) : FVec Ideal S2x4096x128 .f32 :=
  shapeCast S2x4096x128 (concatenate S2x4096x2x64 3 [⟨S2x4096x2x32, (subf (mulf (extractStridedSlice S2x4096x2x32 ![0, 0, 0, 0] k slices_S2x4096x2x64_S2x4096x2x32_0_0_0_0) (broadcastInDim S2x4096x2x32 ![0, 1, 2, 3] bcast_S1x4096x1x32_S2x4096x2x32_0_1_2_3 (broadcastInDim S1x4096x1x32 ![1, 3] bcast_S4096x32_S1x4096x1x32_1_3 co))) (mulf (extractStridedSlice S2x4096x2x32 ![0, 0, 0, 32] k slices_S2x4096x2x64_S2x4096x2x32_0_0_0_32) (broadcastInDim S2x4096x2x32 ![0, 1, 2, 3] bcast_S1x4096x1x32_S2x4096x2x32_0_1_2_3 (broadcastInDim S1x4096x1x32 ![1, 3] bcast_S4096x32_S1x4096x1x32_1_3 si))))⟩, ⟨S2x4096x2x32, (addf (mulf (extractStridedSlice S2x4096x2x32 ![0, 0, 0, 32] k slices_S2x4096x2x64_S2x4096x2x32_0_0_0_32) (broadcastInDim S2x4096x2x32 ![0, 1, 2, 3] bcast_S1x4096x1x32_S2x4096x2x32_0_1_2_3 (broadcastInDim S1x4096x1x32 ![1, 3] bcast_S4096x32_S1x4096x1x32_1_3 co))) (mulf (extractStridedSlice S2x4096x2x32 ![0, 0, 0, 0] k slices_S2x4096x2x64_S2x4096x2x32_0_0_0_0) (broadcastInDim S2x4096x2x32 ![0, 1, 2, 3] bcast_S1x4096x1x32_S2x4096x2x32_0_1_2_3 (broadcastInDim S1x4096x1x32 ![1, 3] bcast_S4096x32_S1x4096x1x32_1_3 si))))⟩] concatenates_S2x4096x2x32_S2x4096x2x32_S2x4096x2x64_d3) shapeCasts_S2x4096x2x64_S2x4096x128

/-- Queries, keys and values side by side. -/
def join (Q : FVec Ideal S2x4096x1024 .f32) (K v : FVec Ideal S2x4096x128 .f32) : FVec Ideal S8192x1280 .bf16 :=
  truncf .bf16 (shapeCast S8192x1280 ((concatenate S2x4096x1280 2 [⟨S2x4096x1024, (Q : (⟨S2x4096x1024, .f32⟩ : BufTy).Contents (Elt Ideal))⟩, ⟨S2x4096x128, (K : (⟨S2x4096x128, .f32⟩ : BufTy).Contents (Elt Ideal))⟩, ⟨S2x4096x128, (v : (⟨S2x4096x128, .f32⟩ : BufTy).Contents (Elt Ideal))⟩] concatenates_S2x4096x1024_S2x4096x128_S2x4096x128_S2x4096x1280_d2 : (⟨S2x4096x1280, .f32⟩ : BufTy).Contents (Elt Ideal))) shapeCasts_S2x4096x1280_S8192x1280) bitsLt_bf16_f32

/-- The recurrence's columns, unmixed. -/
def rV (Z : FVec Ideal S2x4096x4640 .f32) : FVec Ideal S2x4096x3360 .f32 :=
  extractStridedSlice S2x4096x3360 ![0, 0, 1280] Z slices_S2x4096x4640_S2x4096x3360_0_0_1280

/-- The recurrence's columns mixed with the time step before. -/
def zrV (z : FVec Ideal S2x4096x3360 .f32) (mu : FVec Ideal S3360 .f32) : FVec Ideal S8192x3456 .f32 :=
  pad S8192x3456 ![0, 0] ![0, 96] ![0, 0] (shapeCast S8192x3360 (addf z (mulf (subf (extractStridedSlice S2x4096x3360 ![0, 0, 0] (pad S2x4097x3360 ![0, 1, 0] ![0, 0, 0] ![0, 0, 0] z (sitofp .f32 (constantI S_ 32 0#32)) pads_S2x4096x3360_S2x4097x3360_000_100_000 h_S_) slices_S2x4097x3360_S2x4096x3360_0_0_0) z) (broadcastInDim S2x4096x3360 ![0, 1, 2] bcast_S1x1x3360_S2x4096x3360_0_1_2 (broadcastInDim S1x1x3360 ![2] bcast_S3360_S1x1x3360_2 mu)))) shapeCasts_S2x4096x3360_S8192x3360) (sitofp .f32 (constantI S_ 32 0#32)) pads_S8192x3360_S8192x3456_000_0960 h_S_

section
variable (m : (ℓ : Loc nD τ sig) → Buf (Elt Ideal) ℓ) (c : Dev nD)

/-- The array `main_arg0` and the others, as the stages read them. -/
abbrev a0 : FVec Ideal S2x4096x2048 .f32 := m ((c.tc : Thread nD τ).loc main_arg0)
/-- The gains. -/
abbrev a1 : FVec Ideal S2048 .f32 := m ((c.tc : Thread nD τ).loc main_arg1)
/-- The shifts. -/
abbrev a2 : FVec Ideal S2x2048 .f32 := m ((c.tc : Thread nD τ).loc main_arg2)
/-- The scales. -/
abbrev a3 : FVec Ideal S2x2048 .f32 := m ((c.tc : Thread nD τ).loc main_arg3)
/-- The weights. -/
abbrev a4 : FVec Ideal S2048x4640 .f32 := m ((c.tc : Thread nD τ).loc main_arg4)
/-- The mixing weights. -/
abbrev a5 : FVec Ideal S3360 .f32 := m ((c.tc : Thread nD τ).loc main_arg5)
/-- The cosines. -/
abbrev a6 : FVec Ideal S4096x32 .f32 := m ((c.tc : Thread nD τ).loc main_arg6)
/-- The sines. -/
abbrev a7 : FVec Ideal S4096x32 .f32 := m ((c.tc : Thread nD τ).loc main_arg7)

/-- The projected rows of the arguments. -/
def ZV : FVec Ideal S2x4096x4640 .f32 := zV (hV (a0 m c) (msV (a0 m c)) (a1 m c) (a2 m c) (a3 m c)) (a4 m c)

/-- The attention columns are the stages'. -/
theorem res0_eq : (Value.res_out0 m c : FVec Ideal S8192x1280 .bf16)
    = join (rq (qV (ZV m c)) (a6 m c) (a7 m c)) (rk (kV (ZV m c)) (a6 m c) (a7 m c)) (vV (ZV m c)) := rfl

/-- The recurrence's columns are the stages'. -/
theorem res1_eq : (Value.res_out1 m c : FVec Ideal S8192x3456 .f32) = zrV (rV (ZV m c)) (a5 m c) := rfl
end

theorem red : Shape.Reduces S2x4096x2048 [2] S2x4096 := by decide

/-- A row's index with the column put back. -/
theorem lift_row (b : Fin 2) (t : Fin 4096) (k : Fin 2048) : red.lift (ix2 b t) k = ix3 b t k := by
  funext a
  match a with
  | 0 => rfl
  | 1 => rfl
  | 2 => rfl

/-- A row's sum of squares. -/
theorem ms_apply (x : FVec Ideal S2x4096x2048 .f32) (b : Fin 2) (t : Fin 4096) :
    msV x (ix2 b t) = ∑ k : Fin 2048, x (ix3 b t k) * x (ix3 b t k) := by
  refine (Ideal.hostReduceAdd_single reducesTo_S2x4096x2048_S2x4096_d2 red (mulf x x) _ _).trans ?_
  refine (congrArg₂ (· + ·) (Ideal.ofBits_zero_f32)
    (Finset.sum_congr rfl fun k _ => congrArg (fun i => x i * x i) (lift_row b t k))).trans (zero_add _)

/-- A modulated row. -/
theorem h_apply (x : FVec Ideal S2x4096x2048 .f32) (g : FVec Ideal S2048 .f32) (sh sc : FVec Ideal S2x2048 .f32)
    (b : Fin 2) (t : Fin 4096) (k : Fin 2048) : hV x (msV x) g sh sc (ix3 b t k) = Inp.row x g sh sc b t k := by
  unfold Inp.row Inp.norm
  rw [← ms_apply]
  pointwise [hV]

/-- A projected column. -/
theorem Z_apply (x : FVec Ideal S2x4096x2048 .f32) (g : FVec Ideal S2048 .f32) (sh sc : FVec Ideal S2x2048 .f32)
    (w : FVec Ideal S2048x4640 .f32) (b : Fin 2) (t : Fin 4096) (n : Fin 4640) :
    zV (hV x (msV x) g sh sc) w (ix3 b t n) = Inp.Z x g sh sc w b t n.val := by
  have e : ∀ h : FVec Ideal S2x4096x2048 .f32, zV h w (ix3 b t n) = ∑ k : Fin 2048, h (ix3 b t k) * w (ix2 k n) := by
    intro h; pointwise [zV]
  rw [e]
  refine Finset.sum_congr rfl fun k _ => congrArg₂ (· * ·) (h_apply x g sh sc b t k) ?_
  unfold Inp.wide
  rw [dif_pos n.isLt]

/-- The query columns at an index. -/
theorem q_apply (Z : FVec Ideal S2x4096x4640 .f32) (b : Fin 2) (t : Fin 4096) (h : Fin 16) (d : Fin 64) :
    qV Z (ix4 b t h d) = Z (ix3 b t ⟨h.val * 64 + d.val, by omega⟩) := by
  pointwise [qV]

/-- The key columns at an index. -/
theorem k_apply (Z : FVec Ideal S2x4096x4640 .f32) (b : Fin 2) (t : Fin 4096) (h : Fin 2) (d : Fin 64) :
    kV Z (ix4 b t h d) = Z (ix3 b t ⟨1024 + (h.val * 64 + d.val), by omega⟩) := by
  pointwise [kV]

/-- The value columns at an index. -/
theorem v_apply (Z : FVec Ideal S2x4096x4640 .f32) (b : Fin 2) (t : Fin 4096) (d : Fin 128) :
    vV Z (ix3 b t d) = Z (ix3 b t ⟨1152 + d.val, by omega⟩) := by
  pointwise [vV]

/-- The two halves of a rotated head are the shared rotation: `u` and `v` are the head's columns `d` and `d ± 32`. -/
theorem rot_halves (f : Nat → EReal) (co si : FVec Ideal S4096x32 .f32) (t : Fin 4096) (e d : Nat) (hd : d = e % 64)
    (q : Fin 64 → EReal) (hq : ∀ i : Fin 64, q i = f (e - d + i.val)) :
    (if h : d < 32 then
      q ⟨d, by omega⟩ * co (ix2 t ⟨d, h⟩) - q ⟨32 + d, by omega⟩ * si (ix2 t ⟨d, h⟩)
    else
      q ⟨32 + (d - 32), by omega⟩ * co (ix2 t ⟨d - 32, by omega⟩) + q ⟨d - 32, by omega⟩ * si (ix2 t ⟨d - 32, by omega⟩))
      = Inp.rot co si f t e := by
  unfold Inp.rot
  by_cases h : d < 32
  · rw [dif_pos h, if_pos (by omega), hq, hq, sub_eq_add_neg, mul_neg]
    have e1 : e - d + d = e := by omega
    have e2 : e - d + (32 + d) = e + 32 := by omega
    have e3 : (⟨d, h⟩ : Fin 32) = ⟨e % 32, Nat.mod_lt _ (by decide)⟩ := Fin.ext (by dsimp only; omega)
    rw [e3]; dsimp only; rw [e1, e2]
  · rw [dif_neg h, if_neg (by omega), hq, hq]
    have e1 : e - d + (32 + (d - 32)) = e := by omega
    have e2 : e - d + (d - 32) = e - 32 := by omega
    have e3 : (⟨d - 32, by omega⟩ : Fin 32) = ⟨e % 32, Nat.mod_lt _ (by decide)⟩ := Fin.ext (by dsimp only; omega)
    rw [e3]; dsimp only; rw [e1, e2]

/-- The rotated queries at an index. -/
theorem rq_apply (q : FVec Ideal S2x4096x16x64 .f32) (co si : FVec Ideal S4096x32 .f32) (b : Fin 2) (t : Fin 4096) (e : Fin 1024)
    (f : Nat → EReal) (hq : ∀ h d, q (ix4 b t h d) = f (h.val * 64 + d.val)) :
    rq q co si (ix3 b t e) = Inp.rot co si f t e.val := by
  rw [← rot_halves f co si t e.val (e.val % 64) rfl (fun i => q (ix4 b t ⟨e.val / 64, by omega⟩ i)) fun i => by
    rw [hq]; exact congrArg f (by dsimp only; omega)]
  pointwise [rq]

/-- The rotated keys at an index. -/
theorem rk_apply (k : FVec Ideal S2x4096x2x64 .f32) (co si : FVec Ideal S4096x32 .f32) (b : Fin 2) (t : Fin 4096) (e : Fin 128)
    (f : Nat → EReal) (hk : ∀ h d, k (ix4 b t h d) = f (1024 + (h.val * 64 + d.val))) :
    rk k co si (ix3 b t e) = Inp.rot co si f t (1024 + e.val) := by
  rw [← rot_halves f co si t (1024 + e.val) (e.val % 64) (by omega) (fun i => k (ix4 b t ⟨e.val / 64, by omega⟩ i)) fun i => by
    rw [hk]; exact congrArg f (by dsimp only; omega)]
  pointwise [rk]

/-- The joined columns at an index. -/
theorem join_apply (Q : FVec Ideal S2x4096x1024 .f32) (K v : FVec Ideal S2x4096x128 .f32) (p : Fin 8192) (e : Fin 1280) :
    join Q K v (ix2 p e) = if h : e.val < 1024 then Q (ix3 ⟨p.val / 4096, by omega⟩ ⟨p.val % 4096, by omega⟩ ⟨e.val, h⟩)
      else if h : e.val - 1024 < 128 then K (ix3 ⟨p.val / 4096, by omega⟩ ⟨p.val % 4096, by omega⟩ ⟨e.val - 1024, h⟩)
      else v (ix3 ⟨p.val / 4096, by omega⟩ ⟨p.val % 4096, by omega⟩ ⟨e.val - 1024 - 128, by omega⟩) := by
  pointwise [join]

/-- The recurrence's unmixed columns at an index. -/
theorem r_apply (Z : FVec Ideal S2x4096x4640 .f32) (b : Fin 2) (t : Fin 4096) (j : Fin 3360) :
    rV Z (ix3 b t j) = Z (ix3 b t ⟨1280 + j.val, by omega⟩) := by
  pointwise [rV]

/-- The integer zero converts to zero. -/
theorem cvt_zero : (FloatOps.sitofp FTy.f32 0#32 : Ideal .f32) = 0 := by
  show (((0#32 : BitVec 32).toInt : ℝ) : EReal) = 0
  simp

/-- The mixed columns at an index. -/
theorem zr_apply (z : FVec Ideal S2x4096x3360 .f32) (mu : FVec Ideal S3360 .f32) (p : Fin 8192) (e : Fin 3456) :
    zrV z mu (ix2 p e) = if h : e.val < 3360 then
      z (ix3 ⟨p.val / 4096, by omega⟩ ⟨p.val % 4096, by omega⟩ ⟨e.val, h⟩) +
        ((if _ : p.val / 4096 < 2 ∧ (1 ≤ p.val % 4096 ∧ p.val % 4096 - 1 < 4096) ∧ e.val < 3360 then
              z (ix3 ⟨p.val / 4096, by omega⟩ ⟨p.val % 4096 - 1, by omega⟩ ⟨e.val, h⟩)
            else 0) -
            z (ix3 ⟨p.val / 4096, by omega⟩ ⟨p.val % 4096, by omega⟩ ⟨e.val, h⟩)) *
          mu (ix1 ⟨e.val, h⟩)
    else 0 := by
  pointwise [zrV]
  simp only [cvt_zero]

section
variable (m : (ℓ : Loc nD τ sig) → Buf (Elt Ideal) ℓ) (c : Dev nD)

/-- The projected rows of the arguments at an index. -/
theorem ZV_apply (b : Fin 2) (t : Fin 4096) (n : Fin 4640) :
    ZV m c (ix3 b t n) = Inp.Z (a0 m c) (a1 m c) (a2 m c) (a3 m c) (a4 m c) b t n.val := Z_apply _ _ _ _ _ b t n

/-- The reference's attention columns are the shared ones. -/
theorem res0_apply (p : Fin 8192) (e : Fin 1280) :
    (Value.res_out0 m c : FVec Ideal S8192x1280 .bf16) (ix2 p e)
      = Inp.za (a0 m c) (a1 m c) (a2 m c) (a3 m c) (a4 m c) (a6 m c) (a7 m c) ⟨p.val / 4096, by omega⟩ ⟨p.val % 4096, by omega⟩ e.val := by
  rw [res0_eq, join_apply]
  unfold Inp.za
  by_cases h : e.val < 1024
  · rw [dif_pos h, if_pos (by omega)]
    exact rq_apply _ _ _ _ _ ⟨e.val, h⟩ _ fun h d => by rw [q_apply, ZV_apply]
  · rw [dif_neg h]
    by_cases h' : e.val - 1024 < 128
    · rw [dif_pos h', if_pos (by omega)]
      refine (rk_apply _ _ _ _ _ ⟨e.val - 1024, h'⟩ _ fun h d => by rw [k_apply, ZV_apply]).trans ?_
      exact congrArg (Inp.rot _ _ _ _) (by dsimp only; omega)
    · rw [dif_neg h', if_neg (by omega), v_apply, ZV_apply]
      exact congrArg (Inp.Z _ _ _ _ _ _ _) (by dsimp only; omega)

/-- The reference's recurrence columns are the shared ones. -/
theorem res1_apply (p : Fin 8192) (e : Fin 3456) :
    (Value.res_out1 m c : FVec Ideal S8192x3456 .f32) (ix2 p e)
      = Inp.zr (a0 m c) (a1 m c) (a2 m c) (a3 m c) (a4 m c) (a5 m c) ⟨p.val / 4096, by omega⟩ ⟨p.val % 4096, by omega⟩ e.val := by
  rw [res1_eq, zr_apply]
  by_cases h : e.val < 3360
  · rw [dif_pos h]
    unfold Inp.zr Inp.mix
    rw [dif_pos h]
    simp only [r_apply, ZV_apply]
    by_cases h0 : p.val % 4096 = 0
    · rw [dif_neg (by omega), if_pos h0]
    · rw [dif_pos (by omega), if_neg h0]
  · rw [dif_neg h, Inp.zr_pad _ _ _ _ _ _ _ _ _ (by omega)]

/-- The reference's first array. -/
theorem arr0 : (Value.res_out0 m c : FVec Ideal S8192x1280 .bf16)
    = Inp.arrA (a0 m c) (a1 m c) (a2 m c) (a3 m c) (a4 m c) (a6 m c) (a7 m c) := by
  funext i
  obtain ⟨p, e, rfl⟩ := Inp.two i
  exact res0_apply m c p e

/-- The reference's second array. -/
theorem arr1 : (Value.res_out1 m c : FVec Ideal S8192x3456 .f32)
    = Inp.arrR (a0 m c) (a1 m c) (a2 m c) (a3 m c) (a4 m c) (a5 m c) := by
  funext i
  obtain ⟨p, e, rfl⟩ := Inp.two i
  exact res1_apply m c p e
end

end Cert.Reference2Ideal.Proj
-- ==== Proof.InBits.lean ====
/-
  The frame of the input projection at machine words: the program has the text of the one printed for the extended reals, whose
  run holds for any floats.
-/
module
public import proofs.«01_k».proof.Proof.InBody
public import proofs.«01_k».proof.Proof.Gen.Kernel2
public import proofs.«01_k».proof.Defs
@[expose] public section
set_option maxRecDepth 65536
noncomputable section
namespace Cert.Kernel2.Proj
open Idealize.ShloMosaic Idealize.SL.Sem

variable {F : FTy → Type} [FloatOps F]

/-- The two programs' bodies are the same. -/
theorem bodies : @Cert.Kernel2.defs₀ F _ _ = @Cert.Kernel2Ideal.defs₀ F _ _ := by
  funext p ℓ a
  match p with
  | .tc =>
    match ℓ, a with
    | ⟨0, _⟩, (t, s) => rfl
    | ⟨_ + 1, h⟩, _ => exact absurd h (Nat.not_lt.2 (Nat.le_add_left _ _))
  | .scScalar _ => rfl
  | .scVector _ _ => rfl

/-- The two programs' procedures are the same. -/
theorem procedures : @Cert.Kernel2.defs F _ _ = @Cert.Kernel2Ideal.defs F _ _ :=
  congrArg (Pipeline.defs Cert.Kernel2Ideal.pcfgs) bodies

/-- The frame of the input projection. -/
theorem frame : Cert.quiescent_Kernel2 (hKernel2 := Cert.Kernel2.Gen.facts) := by
  intro m ρ _
  rw [procedures]
  exact Cert.Kernel2Ideal.Proj.frame (F := Bits) m ρ

end Cert.Kernel2.Proj
-- ==== Proof.RefVal.lean ====
/-
  The reference of the attention, stage by stage: its composed term is cut into named stages (keys and values in blocks
  with the previous block in front, masked scores, row maximum, denominator, weighted values), each read at an index.
-/
module
public import proofs.«01_k».proof.Proof.Gen.ReferenceIdeal.Run
public import proofs.«01_k».proof.Proof.Spec
@[expose] public section
set_option maxRecDepth 16384
noncomputable section
namespace Cert.ReferenceIdeal.Att
open Idealize.ShloMosaic.Tactic Cert.ReferenceIdeal Cert.ReferenceIdeal.Gen Idealize.ShloMosaic Idealize.ShloMosaic.TcCoe Idealize.SL.Sem

/-- The keys in blocks of 128 rows, the previous block in front of each (zeros before the first). -/
def kb (x : FVec Ideal S2x4096x1280 .bf16) : FVec Ideal S2x32x256x2x64 .f32 :=
  (concatenate S2x32x256x2x64 2 [⟨S2x32x128x2x64, (extractStridedSlice S2x32x128x2x64 ![0, 0, 0, 0, 0]
  (shapeCast _ (pad S2x4224x2x64 ![0, 128, 0, 0] ![0, 0, 0, 0] ![0, 0, 0, 0] (shapeCast _ (extractStridedSlice
  S2x4096x128 ![0, 0, 1024] (extf .f32 x bitsLt_bf16_f32) slices_S2x4096x1280_S2x4096x128_0_0_1024)
  shapeCasts_S2x4096x128_S2x4096x2x64) (sitofp .f32 (constantI S_ 32 0#32))
  pads_S2x4096x2x64_S2x4224x2x64_000_12800_000_000 h_S_) shapeCasts_S2x4224x2x64_S2x33x128x2x64)
  slices_S2x33x128x2x64_S2x32x128x2x64_0_0_0_0_0)⟩, ⟨S2x32x128x2x64, (extractStridedSlice S2x32x128x2x64 ![0, 1,
  0, 0, 0] (shapeCast _ (pad S2x4224x2x64 ![0, 128, 0, 0] ![0, 0, 0, 0] ![0, 0, 0, 0] (shapeCast _
  (extractStridedSlice S2x4096x128 ![0, 0, 1024] (extf .f32 x bitsLt_bf16_f32)
  slices_S2x4096x1280_S2x4096x128_0_0_1024) shapeCasts_S2x4096x128_S2x4096x2x64) (sitofp .f32 (constantI S_ 32
  0#32)) pads_S2x4096x2x64_S2x4224x2x64_000_12800_000_000 h_S_) shapeCasts_S2x4224x2x64_S2x33x128x2x64)
  slices_S2x33x128x2x64_S2x32x128x2x64_0_1_0_0_0)⟩]
  concatenates_S2x32x128x2x64_S2x32x128x2x64_S2x32x256x2x64_d2)

/-- The values in blocks, likewise. -/
def vb (x : FVec Ideal S2x4096x1280 .bf16) : FVec Ideal S2x32x256x2x64 .f32 :=
  (concatenate S2x32x256x2x64 2 [⟨S2x32x128x2x64, (extractStridedSlice S2x32x128x2x64 ![0, 0, 0, 0, 0]
  (shapeCast _ (pad S2x4224x2x64 ![0, 128, 0, 0] ![0, 0, 0, 0] ![0, 0, 0, 0] (shapeCast _ (extractStridedSlice
  S2x4096x128 ![0, 0, 1152] (extf .f32 x bitsLt_bf16_f32) slices_S2x4096x1280_S2x4096x128_0_0_1152)
  shapeCasts_S2x4096x128_S2x4096x2x64) (sitofp .f32 (constantI S_ 32 0#32))
  pads_S2x4096x2x64_S2x4224x2x64_000_12800_000_000 h_S_) shapeCasts_S2x4224x2x64_S2x33x128x2x64)
  slices_S2x33x128x2x64_S2x32x128x2x64_0_0_0_0_0)⟩, ⟨S2x32x128x2x64, (extractStridedSlice S2x32x128x2x64 ![0, 1,
  0, 0, 0] (shapeCast _ (pad S2x4224x2x64 ![0, 128, 0, 0] ![0, 0, 0, 0] ![0, 0, 0, 0] (shapeCast _
  (extractStridedSlice S2x4096x128 ![0, 0, 1152] (extf .f32 x bitsLt_bf16_f32)
  slices_S2x4096x1280_S2x4096x128_0_0_1152) shapeCasts_S2x4096x128_S2x4096x2x64) (sitofp .f32 (constantI S_ 32
  0#32)) pads_S2x4096x2x64_S2x4224x2x64_000_12800_000_000 h_S_) shapeCasts_S2x4224x2x64_S2x33x128x2x64)
  slices_S2x33x128x2x64_S2x32x128x2x64_0_1_0_0_0)⟩]
  concatenates_S2x32x128x2x64_S2x32x128x2x64_S2x32x256x2x64_d2)

/-- The queries in blocks, the heads grouped by the key and value head they share. -/
def qb (x : FVec Ideal S2x4096x1280 .bf16) : FVec Ideal S2x32x128x2x8x64 .f32 :=
  (shapeCast _ (shapeCast _ (extractStridedSlice S2x4096x1024 ![0, 0, 0] (extf .f32 x bitsLt_bf16_f32)
  slices_S2x4096x1280_S2x4096x1024_0_0_0) shapeCasts_S2x4096x1024_S2x4096x16x64)
  shapeCasts_S2x4096x16x64_S2x32x128x2x8x64)

/-- Which keys a query sees: at most 127 rows back and not before the sequence. -/
def mk  : IVec S32x128x256 1 :=
  (andi (broadcastInDim S32x128x256 ![0, 1, 2] bcast_S1x128x256_S32x128x256_0_1_2 (broadcastInDim S1x128x256
  ![1, 2] bcast_S128x256_S1x128x256_1_2 (andi (cmpi .sge (subi (broadcastInDim S128x256 ![0, 1]
  bcast_S128x1_S128x256_0_1 (broadcastInDim S128x1 ![0] bcast_S128_S128x1_0 (iotaInDim S128 32 0)))
  (broadcastInDim S128x256 ![0, 1] bcast_S1x256_S128x256_0_1 (subi (broadcastInDim S1x256 ![1]
  bcast_S256_S1x256_1 (iotaInDim S256 32 0)) (broadcastInDim S1x256 ![] bcast_S_S1x256 (constantI S_ 32
  128#32))))) (broadcastInDim S128x256 ![] bcast_S_S128x256 (constantI S_ 32 0#32))) (cmpi .slt (subi
  (broadcastInDim S128x256 ![0, 1] bcast_S128x1_S128x256_0_1 (broadcastInDim S128x1 ![0] bcast_S128_S128x1_0
  (iotaInDim S128 32 0))) (broadcastInDim S128x256 ![0, 1] bcast_S1x256_S128x256_0_1 (subi (broadcastInDim
  S1x256 ![1] bcast_S256_S1x256_1 (iotaInDim S256 32 0)) (broadcastInDim S1x256 ![] bcast_S_S1x256 (constantI S_
  32 128#32))))) (broadcastInDim S128x256 ![] bcast_S_S128x256 (constantI S_ 32 128#32)))))) (broadcastInDim
  S32x128x256 ![0, 1, 2] bcast_S32x1x256_S32x128x256_0_1_2 (cmpi .sge (addi (broadcastInDim S32x1x256 ![0, 1, 2]
  bcast_S32x1x1_S32x1x256_0_1_2 (muli (broadcastInDim S32x1x1 ![0] bcast_S32_S32x1x1_0 (iotaInDim S32 32 0))
  (broadcastInDim S32x1x1 ![] bcast_S_S32x1x1 (constantI S_ 32 128#32)))) (broadcastInDim S32x1x256 ![0, 1, 2]
  bcast_S1x1x256_S32x1x256_0_1_2 (broadcastInDim S1x1x256 ![1, 2] bcast_S1x256_S1x1x256_1_2 (subi
  (broadcastInDim S1x256 ![1] bcast_S256_S1x256_1 (iotaInDim S256 32 0)) (broadcastInDim S1x256 ![]
  bcast_S_S1x256 (constantI S_ 32 128#32)))))) (broadcastInDim S32x1x256 ![] bcast_S_S32x1x256 (constantI S_ 32
  0#32)))))

/-- The scores of keys `K` and queries `Q`, masked by `m`. -/
def sc (m : IVec S32x128x256 1) (K : FVec Ideal S2x32x256x2x64 .f32) (Q : FVec Ideal S2x32x128x2x8x64 .f32) : FVec Ideal S2x32x2x8x128x256 .f32 :=
  (select (broadcastInDim S2x32x2x8x128x256 ![0, 1, 2, 3, 4, 5]
  bcast_S1x32x1x1x128x256_S2x32x2x8x128x256_0_1_2_3_4_5 (broadcastInDim S1x32x1x1x128x256 ![1, 4, 5]
  bcast_S32x128x256_S1x32x1x1x128x256_1_4_5 m)) (mulf (transpose S2x32x2x8x128x256 [0, 1, 2, 5, 4, 3]
  (Host.dotGeneral dot_S2x32x256x2x64_S2x32x128x2x8x64_S2x32x2x256x128x8_4_5_2_24_013_013 none K Q)
  transposes_S2x32x2x256x128x8_S2x32x2x8x128x256_0_1_2_5_4_3) (broadcastInDim S2x32x2x8x128x256 ![]
  bcast_S_S2x32x2x8x128x256 (constant S_ .f32 0x3E000000#32))) (broadcastInDim S2x32x2x8x128x256 ![]
  bcast_S_S2x32x2x8x128x256 (id (constant S_ .f32 0xFF800000#32))))

/-- The largest score of each row. -/
def rm (s : FVec Ideal S2x32x2x8x128x256 .f32) : FVec Ideal S2x32x2x8x128 .f32 :=
  Host.reduce FloatOps.maximumf s (constant S_ .f32 0xFF800000#32) reducesTo_S2x32x2x8x128x256_S2x32x2x8x128_d5 h_S_

/-- The row maximum of largest scores `R`, the sink among its arguments. -/
def mx (R : FVec Ideal S2x32x2x8x128 .f32) (sk : FVec Ideal S16 .f32) : FVec Ideal S2x32x2x8x128x1 .f32 :=
  (maximumf (broadcastInDim S2x32x2x8x128x1 ![0, 1, 2, 3, 4] bcast_S2x32x2x8x128_S2x32x2x8x128x1_0_1_2_3_4
  R) (broadcastInDim S2x32x2x8x128x1 ![0, 1, 2, 3, 4, 5] bcast_S1x1x2x8x1x1_S2x32x2x8x128x1_0_1_2_3_4_5
  (shapeCast _ sk shapeCasts_S16_S1x1x2x8x1x1)))

/-- The exponentials of the scores `s` below the row maximum `M`. -/
def ex (s : FVec Ideal S2x32x2x8x128x256 .f32) (M : FVec Ideal S2x32x2x8x128x1 .f32) : FVec Ideal S2x32x2x8x128x256 .f32 :=
  Host.exp (subf s (broadcastInDim S2x32x2x8x128x256 ![0, 1, 2, 3, 4, 5]
  bcast_S2x32x2x8x128x1_S2x32x2x8x128x256_0_1_2_3_4_5 M))

/-- Their sums along the rows. -/
def es (e : FVec Ideal S2x32x2x8x128x256 .f32) : FVec Ideal S2x32x2x8x128 .f32 :=
  Host.reduceAdd e (constant S_ .f32 0x00000000#32) reducesTo_S2x32x2x8x128x256_S2x32x2x8x128_d5 h_S_

/-- The denominator: the exponentials' sum `E` with the sink's. -/
def den (E : FVec Ideal S2x32x2x8x128 .f32) (M : FVec Ideal S2x32x2x8x128x1 .f32) (sk : FVec Ideal S16 .f32) : FVec Ideal S2x32x2x8x128x1 .f32 :=
  (addf (broadcastInDim S2x32x2x8x128x1 ![0, 1, 2, 3, 4] bcast_S2x32x2x8x128_S2x32x2x8x128x1_0_1_2_3_4
  E) (Host.exp (subf (broadcastInDim S2x32x2x8x128x1 ![0, 1, 2,
  3, 4, 5] bcast_S1x1x2x8x1x1_S2x32x2x8x128x1_0_1_2_3_4_5 (shapeCast _ sk shapeCasts_S16_S1x1x2x8x1x1)) M)))

/-- The values `V` weighted by the exponentials `e` over the denominator `D`, as the result array lies. -/
def tail (e : FVec Ideal S2x32x2x8x128x256 .f32) (D : FVec Ideal S2x32x2x8x128x1 .f32) (V : FVec Ideal S2x32x256x2x64 .f32) : FVec Ideal S2x4096x1024 .bf16 :=
  truncf .bf16 (shapeCast _ (transpose S2x32x128x2x8x64 [0, 1, 5, 2, 4, 3] (Host.dotGeneral
  dot_S2x32x256x2x64_S2x32x2x8x128x256_S2x32x2x64x8x128_2_5_4_34_013_012 none V (Host.divf e (broadcastInDim S2x32x2x8x128x256 ![0, 1, 2, 3, 4, 5]
  bcast_S2x32x2x8x128x1_S2x32x2x8x128x256_0_1_2_3_4_5 D)))
  transposes_S2x32x2x64x8x128_S2x32x128x2x8x64_0_1_5_2_4_3) shapeCasts_S2x32x128x2x8x64_S2x4096x1024)
  bitsLt_bf16_f32

/-- The whole result from the scores, the sinks and the value blocks. -/
def res (s : FVec Ideal S2x32x2x8x128x256 .f32) (sk : FVec Ideal S16 .f32) (V : FVec Ideal S2x32x256x2x64 .f32) : FVec Ideal S2x4096x1024 .bf16 :=
  tail (ex s (mx (rm s) sk)) (den (es (ex s (mx (rm s) sk))) (mx (rm s) sk) sk) V

/-- The reference's result is the last stage. -/
theorem res_eq (m : (ℓ : Loc nD τ sig) → Buf (Elt Ideal) ℓ) (c : Dev nD) :
    Value.res_main_v71 m c = res (sc mk (kb (m ((c.tc : Thread nD τ).loc main_arg0))) (qb (m ((c.tc : Thread nD τ).loc main_arg0)))) (m ((c.tc : Thread nD τ).loc main_arg1))
      (vb (m ((c.tc : Thread nD τ).loc main_arg0))) := rfl

end Cert.ReferenceIdeal.Att
-- ==== Proof.RefRow.lean ====
/-
  The rows of the reference's softmax at an index.
-/
module
public import proofs.«01_k».proof.Proof.RefVal
@[expose] public section
set_option maxRecDepth 16384
noncomputable section
namespace Cert.ReferenceIdeal.Att
open Idealize.ShloMosaic.Tactic Cert.ReferenceIdeal Cert.ReferenceIdeal.Gen Idealize.ShloMosaic Idealize.ShloMosaic.TcCoe Idealize.SL.Sem

theorem red6 : Shape.Reduces S2x32x2x8x128x256 [5] S2x32x2x8x128 := by decide

/-- A row's index with the key's coordinate put back. -/
theorem lift_row (b : Fin 2) (n : Fin 32) (h : Fin 2) (g : Fin 8) (r : Fin 128) (k : Fin 256) :
    red6.lift (ix5 b n h g r) k = ix6 b n h g r k := by
  funext a
  match a with
  | 0 => rfl
  | 1 => rfl
  | 2 => rfl
  | 3 => rfl
  | 4 => rfl
  | 5 => rfl

/-- The word of minus infinity reads as `⊥`. -/
theorem ofBits_neg_inf : Ideal.ofBits .f32 0xFF800000#32 = ⊥ := by simp [Ideal.ofBits, Ideal.ieee]

/-- The largest score of a row, as a fold over the keys. -/
theorem rm_apply (s : FVec Ideal S2x32x2x8x128x256 .f32) (b : Fin 2) (n : Fin 32) (h : Fin 2) (g : Fin 8) (r : Fin 128) :
    rm s (ix5 b n h g r) = Finset.univ.fold max ⊥ (fun k : Fin 256 => s (ix6 b n h g r k)) := by
  unfold rm
  refine (Host.reduce_eq_fold_single (max : EReal → EReal → EReal) s _ _ red6 _ _).trans ?_
  refine congrArg₂ (fun a (f : Fin 256 → EReal) => Finset.univ.fold max a f) ?_ (funext fun k => congrArg s (lift_row b n h g r k))
  exact ofBits_neg_inf

/-- The exponentials' sum of a row. -/
theorem es_apply (e : FVec Ideal S2x32x2x8x128x256 .f32) (b : Fin 2) (n : Fin 32) (h : Fin 2) (g : Fin 8) (r : Fin 128) :
    es e (ix5 b n h g r) = ∑ k : Fin 256, e (ix6 b n h g r k) := by
  refine (Ideal.hostReduceAdd_single reducesTo_S2x32x2x8x128x256_S2x32x2x8x128_d5 red6 e _ _).trans ?_
  refine (congrArg₂ (· + ·) (Ideal.ofBits_zero_f32)
    (Finset.sum_congr rfl fun k _ => congrArg e (lift_row b n h g r k))).trans (zero_add _)

/-- The row maximum at an index. -/
theorem mx_apply (R : FVec Ideal S2x32x2x8x128 .f32) (sk : FVec Ideal S16 .f32) (b : Fin 2) (n : Fin 32) (h : Fin 2) (g : Fin 8) (r : Fin 128) :
    mx R sk (ix6 b n h g r 0) = max (R (ix5 b n h g r)) (Att.sink sk h g) := by
  pointwise [mx]
  rfl

/-- The exponentials at an index. -/
theorem ex_apply (s : FVec Ideal S2x32x2x8x128x256 .f32) (M : FVec Ideal S2x32x2x8x128x1 .f32) (b : Fin 2) (n : Fin 32) (h : Fin 2) (g : Fin 8) (r : Fin 128) (k : Fin 256) :
    ex s M (ix6 b n h g r k) = Ideal.exp (s (ix6 b n h g r k) - M (ix6 b n h g r 0)) := by
  pointwise [ex]

/-- The denominator at an index. -/
theorem den_apply (E : FVec Ideal S2x32x2x8x128 .f32) (M : FVec Ideal S2x32x2x8x128x1 .f32) (sk : FVec Ideal S16 .f32) (b : Fin 2) (n : Fin 32) (h : Fin 2) (g : Fin 8) (r : Fin 128) :
    den E M sk (ix6 b n h g r 0) = E (ix5 b n h g r) + Ideal.exp (Att.sink sk h g - M (ix6 b n h g r 0)) := by
  pointwise [den]
  rfl

/-- The weighted values at an index. -/
theorem tail_apply (e : FVec Ideal S2x32x2x8x128x256 .f32) (D : FVec Ideal S2x32x2x8x128x1 .f32) (V : FVec Ideal S2x32x256x2x64 .f32)
    (b : Fin 2) (t : Fin 4096) (c : Fin 1024) :
    tail e D V (ix3 b t c) = ∑ k : Fin 256, V (ix5 b ⟨t / 128, by omega⟩ k ⟨c / 512, by omega⟩ ⟨c % 64, by omega⟩)
      * Ideal.div (e (ix6 b ⟨t / 128, by omega⟩ ⟨c / 512, by omega⟩ ⟨c / 64 % 8, by omega⟩ ⟨t % 128, by omega⟩ k))
          (D (ix6 b ⟨t / 128, by omega⟩ ⟨c / 512, by omega⟩ ⟨c / 64 % 8, by omega⟩ ⟨t % 128, by omega⟩ 0)) := by
  pointwise [tail]

end Cert.ReferenceIdeal.Att
-- ==== Proof.RefKeys.lean ====
/-
  The keys, values, queries and masked scores of the reference at an index, and its result as the shared attention.
-/
module
public import proofs.«01_k».proof.Proof.RefRow
public import proofs.«01_k».proof.Proof.Mask
@[expose] public section
set_option maxRecDepth 16384
noncomputable section
namespace Cert.ReferenceIdeal.Att
open Idealize.ShloMosaic.Tactic Cert.ReferenceIdeal Cert.ReferenceIdeal.Gen Idealize.ShloMosaic Idealize.ShloMosaic.TcCoe Idealize.SL.Sem

/-- The word zero reads as the number zero. -/
theorem sit0 : (FloatOps.sitofp .f32 0#32 : Ideal .f32) = 0 := by
  show (((0#32).toInt : ℝ) : EReal) = 0
  simp

/-- The two halves of a block of 256 rows are one range of rows, zero before the sequence. -/
theorem row_cut (f : (p : Nat) → p < 4096 → EReal) (n : Fin 32) (j : Fin 256) (z : EReal) :
    (if _ : j.val < 128 then
        if h : 128 ≤ n.val * 128 + j.val ∧ n.val * 128 + j.val - 128 < 4096 then f (n.val * 128 + j.val - 128) h.2 else z
      else if h : 128 ≤ (1 + n.val) * 128 + (j.val - 128) ∧ (1 + n.val) * 128 + (j.val - 128) - 128 < 4096 then
        f ((1 + n.val) * 128 + (j.val - 128) - 128) h.2 else z)
      = if _ : 128 ≤ n.val * 128 + j.val then f (n.val * 128 + j.val - 128) (by omega) else z := by
  have e : ¬ j.val < 128 → (1 + n.val) * 128 + (j.val - 128) - 128 = n.val * 128 + j.val - 128 := by omega
  have g : ∀ p q (hp : p < 4096) (hq : q < 4096), p = q → f p hp = f q hq := by intro p q hp hq e; subst e; rfl
  split_ifs with h1 h2 h3 h4 h5 <;> first | rfl | exact g _ _ _ _ (e h1) | omega

/-- The key blocks at an index. -/
theorem kb_apply (x : FVec Ideal S2x4096x1280 .bf16) (b : Fin 2) (n : Fin 32) (j : Fin 256) (h : Fin 2) (d : Fin 64) :
    kb x (ix5 b n j h d) = Att.row x b n j ⟨1024 + (h.val * 64 + d.val), by omega⟩ := by
  pointwise [kb]
  exact (row_cut (fun p hp => x (ix3 b ⟨p, hp⟩ ⟨1024 + (h.val * 64 + d.val), by omega⟩)) n j _).trans
    (by rw [sit0]; rfl)

/-- The value blocks at an index. -/
theorem vb_apply (x : FVec Ideal S2x4096x1280 .bf16) (b : Fin 2) (n : Fin 32) (j : Fin 256) (h : Fin 2) (d : Fin 64) :
    vb x (ix5 b n j h d) = Att.row x b n j ⟨1152 + (h.val * 64 + d.val), by omega⟩ := by
  pointwise [vb]
  exact (row_cut (fun p hp => x (ix3 b ⟨p, hp⟩ ⟨1152 + (h.val * 64 + d.val), by omega⟩)) n j _).trans
    (by rw [sit0]; rfl)

/-- The query blocks at an index. -/
theorem qb_apply (x : FVec Ideal S2x4096x1280 .bf16) (b : Fin 2) (n : Fin 32) (r : Fin 128) (h : Fin 2) (g : Fin 8) (d : Fin 64) :
    qb x (ix6 b n r h g d) = x (ix3 b ⟨n.val * 128 + r.val, by omega⟩ ⟨h.val * 512 + g.val * 64 + d.val, by omega⟩) := by
  pointwise [qb]

/-- The mask at an index. -/
theorem mk_apply (n : Fin 32) (r : Fin 128) (j : Fin 256) : mk (ix3 n r j) = if Att.Vis n r j then 1#1 else 0#1 := by
  pointwise [mk]
  rw [Att.band, Att.inseq]
  by_cases hv : Att.Vis n r j
  · rw [if_pos hv]
    unfold Att.Vis at hv
    rw [if_pos (by omega), if_pos (by omega)]
    rfl
  · rw [if_neg hv]
    unfold Att.Vis at hv
    split_ifs <;> first | omega | rfl

/-- The scores at an index. -/
theorem sc_apply (m : IVec S32x128x256 1) (K : FVec Ideal S2x32x256x2x64 .f32) (Q : FVec Ideal S2x32x128x2x8x64 .f32)
    (b : Fin 2) (n : Fin 32) (h : Fin 2) (g : Fin 8) (r : Fin 128) (j : Fin 256) :
    sc m K Q (ix6 b n h g r j) = Scalar.select (m (ix3 n r j))
      ((∑ d : Fin 64, K (ix5 b n j h d) * Q (ix6 b n r h g d)) * Ideal.ofBits .f32 1040187392#32) ⊥ := by
  pointwise [sc]
  exact congrArg (Scalar.select (m (ix3 n r j)) _) ofBits_neg_inf

/-- The reference's scores are the shared ones. -/
theorem score_eq (x : FVec Ideal S2x4096x1280 .bf16)
    (b : Fin 2) (n : Fin 32) (h : Fin 2) (g : Fin 8) (r : Fin 128) (j : Fin 256) :
    sc mk (kb x) (qb x) (ix6 b n h g r j) = Att.score x b n h g r j := by
  rw [sc_apply, mk_apply]
  unfold Att.score
  simp only [kb_apply, qb_apply]
  by_cases hv : Att.Vis n r j
  · rw [if_pos hv, if_pos hv]; rfl
  · rw [if_neg hv, if_neg hv]; rfl

/-- The reference's result is the shared attention. -/
theorem res_apply (x : FVec Ideal S2x4096x1280 .bf16) (sk : FVec Ideal S16 .f32) (b : Fin 2) (t : Fin 4096) (c : Fin 1024) :
    res (sc mk (kb x) (qb x)) sk (vb x) (ix3 b t c)
      = Att.att x sk b ⟨t / 128, by omega⟩ ⟨t % 128, by omega⟩ ⟨c / 512, by omega⟩ ⟨c / 64 % 8, by omega⟩ ⟨c % 64, by omega⟩ := by
  unfold res
  rw [tail_apply]
  simp only [ex_apply, den_apply, mx_apply, rm_apply, es_apply, vb_apply, score_eq]
  rfl

end Cert.ReferenceIdeal.Att
-- ==== Proof.lean ====
module

public import proofs.«01_k».proof.Proof.Gen.KernelIdeal.Value
public import proofs.«01_k».proof.Proof.Gen.Kernel3.Frame
public import proofs.«01_k».proof.Proof.Gen.Kernel3Ideal.Value
public import proofs.«01_k».proof.Proof.Gen.Reference3Ideal.Run
public import proofs.«01_k».proof.Proof.WoFinal
public import proofs.«01_k».proof.Proof.WoRef
public import proofs.«01_k».proof.Proof.WoPre
public import proofs.«01_k».proof.Proof.InFinal
public import proofs.«01_k».proof.Proof.InRef
public import proofs.«01_k».proof.Proof.InBits
public import proofs.«01_k».proof.Proof.Gen.Kernel2
public import proofs.«01_k».proof.Proof.Gen.Reference2Ideal.Run
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pre
public import proofs.«01_k».proof.Proof.RefKeys
public import Idealize.ShloMosaic.Adequacy
public import Idealize.ShloMosaic.Init

@[expose] public section

noncomputable section

namespace Cert.Proof

open Idealize.ShloMosaic Idealize.SL.Sem Cert.Kernel

/-- The kernel's and the reference's results agree where queries, keys and sinks are finite. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Att.facts) := by
  intro m g m' g' hpre hagree
  refine ⟨fun c => Cert.KernelIdeal.Att.G m c, ?_, ?_⟩
  · refine (θ_run Cert.KernelIdeal.defs _ _).mono (fun r h c => ⟨(h c).1.trans ?_, (h c).2⟩)
      (Cert.KernelIdeal.Value.run_blocks (F := Ideal) m g)
    exact Cert.KernelIdeal.Att.final c
      (@Cert.Pre_finite_scores.Att.zs Cert.Pre_finite_scores.Att.facts _ _ (hpre c).1)
      (@Cert.Pre_finite_scores.Att.ss Cert.Pre_finite_scores.Att.facts _ _ (hpre c).2)
  · refine (θ_run Cert.ReferenceIdeal.defs _ _).mono (fun r h c => ⟨(h c).1.trans ?_, (h c).2⟩)
      (Cert.ReferenceIdeal.Value.run (F := Ideal) m' g')
    refine (Cert.ReferenceIdeal.Att.res_eq m' c).trans ?_
    rw [(hagree c).1, (hagree c).2]
    funext i
    obtain ⟨b, t, e, rfl⟩ : ∃ (b : Fin 2) (t : Fin 4096) (e : Fin 1024), i = ix3 b t e := by
      refine ⟨i 0, i 1, i 2, ?_⟩
      funext a
      match a with
      | ⟨0, _⟩ => rfl
      | ⟨1, _⟩ => rfl
      | ⟨2, _⟩ => rfl
    exact Cert.ReferenceIdeal.Att.res_apply _ _ b t e

/-- The frame of the reference: a host run, which declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The input projection's and its reference's two results agree. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Proj.Ga m c, fun c => Cert.Kernel2Ideal.Proj.Gr m c, Cert.Kernel2Ideal.Proj.run_values m g, ?_⟩
  refine (θ_run Cert.Reference2Ideal.defs _ _).mono
    (fun r h c => ⟨(h c).1.trans ?_, (h c).2.1.trans ?_, (h c).2.2⟩) (Cert.Reference2Ideal.Value.run (F := Ideal) m' g')
  · obtain ⟨h0, h1, h2, h3, h4, h5, h6, h7⟩ := hagree c
    refine (Cert.Reference2Ideal.Proj.arr0 m' c).trans ?_
    unfold Cert.Reference2Ideal.Proj.a0 Cert.Reference2Ideal.Proj.a1 Cert.Reference2Ideal.Proj.a2 Cert.Reference2Ideal.Proj.a3
      Cert.Reference2Ideal.Proj.a4 Cert.Reference2Ideal.Proj.a6 Cert.Reference2Ideal.Proj.a7
    rw [h0, h1, h2, h3, h4, h6, h7]
    rfl
  · obtain ⟨h0, h1, h2, h3, h4, h5, h6, h7⟩ := hagree c
    refine (Cert.Reference2Ideal.Proj.arr1 m' c).trans ?_
    unfold Cert.Reference2Ideal.Proj.a0 Cert.Reference2Ideal.Proj.a1 Cert.Reference2Ideal.Proj.a2 Cert.Reference2Ideal.Proj.a3
      Cert.Reference2Ideal.Proj.a4 Cert.Reference2Ideal.Proj.a5
    rw [h0, h1, h2, h3, h4, h5]
    rfl

/-- The frame of the input projection's reference. -/
theorem frame_ref2 : Cert.quiescent_Reference2Ideal (hReference2Ideal := Cert.Reference2Ideal.Gen.facts) := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The output projection's and its reference's three results agree where the norm's gain, the shift, the scale and the router's weights are finite. -/
theorem algebraic3 : Cert.algebraic_Kernel3Ideal_Reference3Ideal_pre_finite_router (hKernel3Ideal := Cert.Kernel3Ideal.Gen.facts)
    (hReference3Ideal := Cert.Reference3Ideal.Gen.facts) (hPre_finite_router := Cert.Pre_finite_router.Wo.facts) := by
  intro m g m' g' hpre hagree
  refine ⟨fun c => Cert.Kernel3Ideal.Wo.Gx m c, fun c => Cert.Kernel3Ideal.Wo.Gh m c, fun c => Cert.Kernel3Ideal.Wo.Gl m c, ?_, ?_⟩
  · refine (θ_run Cert.Kernel3Ideal.defs _ _).mono (fun r h c => ?_) (Cert.Kernel3Ideal.Value.run_blocks (F := Ideal) m g)
    obtain ⟨p5, p6, p7, p8, p10⟩ :=
      @Cert.Pre_finite_router.Wo.all Cert.Pre_finite_router.Wo.facts _ _ _ _ _ _ _ _ _ _ _ _ (hpre c)
    exact ⟨(h c).1.trans (Cert.Kernel3Ideal.Wo.final11 m c), (h c).2.1.trans (Cert.Kernel3Ideal.Wo.final12 m c),
      (h c).2.2.1.trans (Cert.Kernel3Ideal.Wo.final13 m c
        (Cert.Wo.h2_real (fun _ => p5 _) (fun _ _ => p6 _) fun _ _ => p7 _)
        (Cert.Wo.wr_real (fun _ _ => p8 _) fun _ _ => p10 _)), (h c).2.2.2⟩
  · refine (θ_run Cert.Reference3Ideal.defs _ _).mono
      (fun r h c => ⟨(h c).1.trans ?_, (h c).2.1.trans ?_, (h c).2.2.1.trans ?_, (h c).2.2.2⟩) (Cert.Reference3Ideal.Wo.run_values m' g')
    · obtain ⟨h0, h1, h2, h3, h4, -⟩ := hagree c
      unfold Cert.Reference3Ideal.Wo.a0 Cert.Reference3Ideal.Wo.a1 Cert.Reference3Ideal.Wo.a2 Cert.Reference3Ideal.Wo.a3
        Cert.Reference3Ideal.Wo.a4
      rw [h0, h1, h2, h3, h4]
      rfl
    · obtain ⟨h0, h1, h2, h3, h4, h5, h6, h7, -⟩ := hagree c
      unfold Cert.Reference3Ideal.Wo.a0 Cert.Reference3Ideal.Wo.a1 Cert.Reference3Ideal.Wo.a2 Cert.Reference3Ideal.Wo.a3
        Cert.Reference3Ideal.Wo.a4 Cert.Reference3Ideal.Wo.a5 Cert.Reference3Ideal.Wo.a6 Cert.Reference3Ideal.Wo.a7
      rw [h0, h1, h2, h3, h4, h5, h6, h7]
      rfl
    · obtain ⟨h0, h1, h2, h3, h4, h5, h6, h7, h8, h9, h10, h11⟩ := hagree c
      unfold Cert.Reference3Ideal.Wo.a0 Cert.Reference3Ideal.Wo.a1 Cert.Reference3Ideal.Wo.a2 Cert.Reference3Ideal.Wo.a3
        Cert.Reference3Ideal.Wo.a4 Cert.Reference3Ideal.Wo.a5 Cert.Reference3Ideal.Wo.a6 Cert.Reference3Ideal.Wo.a7
        Cert.Reference3Ideal.Wo.a8 Cert.Reference3Ideal.Wo.a9 Cert.Reference3Ideal.Wo.a10 Cert.Reference3Ideal.Wo.a11
      rw [h0, h1, h2, h3, h4, h5, h6, h7, h8, h9, h10, h11]
      rfl

/-- The frame of the output projection's reference. -/
theorem frame_ref3 : Cert.quiescent_Reference3Ideal (hReference3Ideal := Cert.Reference3Ideal.Gen.facts) := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The whole certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_scores.Att.facts, Cert.Pre_finite_router.Wo.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  Cert.Kernel2.Proj.frame,
  fun m ρ _ => Cert.Kernel2Ideal.Proj.frame m ρ,
  frame_ref2,
  fun m ρ _ => Cert.Kernel3.Gen.frame m ρ,
  fun m ρ _ => Cert.Kernel3Ideal.Gen.frame m ρ,
  fun m ρ _ => Cert.Kernel3Ideal.Gen.frame m ρ,
  frame_ref3,
  fun m ρ _ => frame_ref3 m ρ trivial,
  Idealize.ShloMosaic.IdealRules.named_const.statement Cert.KernelIdeal.κ "mask" .f32 0xF149F2CA#32 ⊥ rfl,
  algebraic,
  trivial,
  algebraic2,
  trivial,
  algebraic3⟩

end Cert.Proof

end
